-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_on_the_hyperboloid [hPre_on_the_hyperboloid : Cert.Pre_on_the_hyperboloid.Facts] (m : (ℓ : Loc Cert.KernelIdeal.nD Cert.KernelIdeal.τ Cert.KernelIdeal.sig) → Buf (Elt Ideal) ℓ) : Prop :=
  ∀ c : Dev Cert.KernelIdeal.nD,
    (Cert.Pre_on_the_hyperboloid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).1 = (fun _ => 1#1)
    ∧ (Cert.Pre_on_the_hyperboloid.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_on_the_hyperboloid [hPre_on_the_hyperboloid : Cert.Pre_on_the_hyperboloid.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_on_the_hyperboloid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).1 = (fun _ => 1#1)
    ∧ (Cert.Pre_on_the_hyperboloid.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_KernelIdeal_pre_on_the_hyperboloid [hKernelIdeal : Cert.KernelIdeal.Facts] [hPre_on_the_hyperboloid : Cert.Pre_on_the_hyperboloid.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_on_the_hyperboloid m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_on_the_hyperboloid [hReferenceIdeal : Cert.ReferenceIdeal.Facts] [hPre_on_the_hyperboloid : Cert.Pre_on_the_hyperboloid.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_on_the_hyperboloid m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal_pre_on_the_hyperboloid [hKernelIdeal : Cert.KernelIdeal.Facts] [hReferenceIdeal : Cert.ReferenceIdeal.Facts] [hPre_on_the_hyperboloid : Cert.Pre_on_the_hyperboloid.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_on_the_hyperboloid m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v123)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v123) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v206) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_on_the_hyperboloid : Cert.Pre_on_the_hyperboloid.Facts),
    quiescent_Kernel (hKernel := hKernel)
    ∧ quiescent_KernelIdeal (hKernelIdeal := hKernelIdeal)
    ∧ quiescent_KernelIdeal_pre_on_the_hyperboloid (hKernelIdeal := hKernelIdeal) (hPre_on_the_hyperboloid := hPre_on_the_hyperboloid)
    ∧ quiescent_ReferenceIdeal (hReferenceIdeal := hReferenceIdeal)
    ∧ quiescent_ReferenceIdeal_pre_on_the_hyperboloid (hReferenceIdeal := hReferenceIdeal) (hPre_on_the_hyperboloid := hPre_on_the_hyperboloid)
    ∧ preserves_Kernel_KernelIdeal
    ∧ algebraic_KernelIdeal_ReferenceIdeal_pre_on_the_hyperboloid (hKernelIdeal := hKernelIdeal) (hReferenceIdeal := hReferenceIdeal) (hPre_on_the_hyperboloid := hPre_on_the_hyperboloid)
-- ==== Pre_on_the_hyperboloid.lean ====
abbrev S50000x17 : Shape := ⟨2, ![50000, 17]⟩
abbrev S2x800000 : Shape := ⟨2, ![2, 800000]⟩
abbrev S17x64 : Shape := ⟨2, ![17, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S64x1 : Shape := ⟨2, ![64, 1]⟩
abbrev S1 : Shape := ⟨1, ![1]⟩
abbrev S50000x16 : Shape := ⟨2, ![50000, 16]⟩
abbrev S50000x1 : Shape := ⟨2, ![50000, 1]⟩
abbrev S50000 : Shape := ⟨1, ![50000]⟩
abbrev S_ : Shape := ⟨0, ![]⟩
abbrev S1x800000 : Shape := ⟨2, ![1, 800000]⟩
abbrev S800000 : Shape := ⟨1, ![800000]⟩

class Facts : Prop where
  slices_S50000x17_S50000x16_0_1 : S50000x17.Slices ![0, 1] S50000x16
  slices_S50000x17_S50000x1_0_0 : S50000x17.Slices ![0, 0] S50000x1
  shapeCasts_S50000x1_S50000 : S50000x1.ShapeCasts S50000
  reducesTo_S50000x16_S50000_d1 : S50000x16.ReducesTo [1] S50000
  h_S_ : 0 < S_.numel
  bcast_S_S50000 : S_.BroadcastsInDim S50000 (![] : Fin 0 → Fin S50000.rank)
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)

variable [Facts]

def fn {F : FTy → Type} [FloatOps F] (main_arg0 : FVec F S50000x17 .f32) (main_arg1 : IVec S2x800000 32) (main_arg2 : FVec F S17x64 .f32) (main_arg3 : FVec F S64 .f32) (main_arg4 : FVec F S64x64 .f32) (main_arg5 : FVec F S64 .f32) (main_arg6 : FVec F S64x32 .f32) (main_arg7 : FVec F S32 .f32) (main_arg8 : FVec F S64x64 .f32) (main_arg9 : FVec F S64 .f32) (main_arg10 : FVec F S64x1 .f32) (main_arg11 : FVec F S1 .f32) (main_arg12 : FVec F S64x64 .f32) (main_arg13 : FVec F S64 .f32) (main_arg14 : FVec F S64x1 .f32) (main_arg15 : FVec F S1 .f32) : IVec S50000 1 × IVec S800000 1 :=
  let main_v0 : FVec F S50000x16 .f32 := (extractStridedSlice S50000x16 ![0, 1] · slices_S50000x17_S50000x16_0_1) main_arg0
  let main_v1 : FVec F S50000x1 .f32 := (extractStridedSlice S50000x1 ![0, 0] · slices_S50000x17_S50000x1_0_0) main_arg0
  let main_v2 : FVec F S50000 .f32 := shapeCast S50000 main_v1 shapeCasts_S50000x1_S50000
  let main_v3 : FVec F S50000x16 .f32 := mulf main_v0 main_v0
  let main_cst : FVec F S_ .f32 := constant S_ .f32 0x00000000#32
  let main_v4 : FVec F S50000 .f32 := (fun x v => Host.reduceAdd x v reducesTo_S50000x16_S50000_d1 h_S_) main_v3 main_cst
  let main_cst_0 : FVec F S_ .f32 := constant S_ .f32 0x3F800000#32
  let main_v5 : FVec F S50000 .f32 := broadcastInDim S50000 ![] bcast_S_S50000 main_cst_0
  let main_v6 : FVec F S50000 .f32 := addf main_v5 main_v4
  let main_v7 : FVec F S50000 .f32 := Host.sqrt main_v6
  let main_v8 : IVec S50000 1 := cmpf .oeq main_v2 main_v7
  let main_v9 : IVec S1x800000 32 := (extractStridedSlice S1x800000 ![1, 0] · slices_S2x800000_S1x800000_1_0) main_arg1
  let main_v10 : IVec S800000 32 := shapeCast S800000 main_v9 shapeCasts_S1x800000_S800000
  let main_c : IVec S_ 32 := constantI S_ 32 0#32
  let main_v11 : IVec S800000 32 := broadcastInDim S800000 ![] bcast_S_S800000 main_c
  let main_v12 : IVec S800000 1 := cmpi .sge main_v10 main_v11
  (main_v8, main_v12)
-- ==== Kernel.lean ====
abbrev S50000x17 : Shape := ⟨2, ![50000, 17]⟩
abbrev S2x800000 : Shape := ⟨2, ![2, 800000]⟩
abbrev S17x64 : Shape := ⟨2, ![17, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x16 : Shape := ⟨2, ![50000, 16]⟩
abbrev S50000x64 : Shape := ⟨2, ![50000, 64]⟩
abbrev S800000x64 : Shape := ⟨2, ![800000, 64]⟩
abbrev S1x64 : Shape := ⟨2, ![1, 64]⟩
abbrev S50000x32 : Shape := ⟨2, ![50000, 32]⟩
abbrev S800000x32 : Shape := ⟨2, ![800000, 32]⟩
abbrev S1x32 : Shape := ⟨2, ![1, 32]⟩
abbrev S50000x48 : Shape := ⟨2, ![50000, 48]⟩
abbrev S800000x48 : Shape := ⟨2, ![800000, 48]⟩
abbrev S64x128 : Shape := ⟨2, ![64, 128]⟩
abbrev S128 : Shape := ⟨1, ![128]⟩
abbrev S1x128 : Shape := ⟨2, ![1, 128]⟩
abbrev S2 : Shape := ⟨1, ![2]⟩
abbrev S80x1x10000 : Shape := ⟨3, ![80, 1, 10000]⟩
abbrev S10000x48 : Shape := ⟨2, ![10000, 48]⟩
abbrev S1x1x10000 : Shape := ⟨3, ![1, 1, 10000]⟩
abbrev S10000x32 : Shape := ⟨2, ![10000, 32]⟩
abbrev S10000x16 : Shape := ⟨2, ![10000, 16]⟩
abbrev S10000 : Shape := ⟨1, ![10000]⟩
abbrev S32x128 : Shape := ⟨2, ![32, 128]⟩
abbrev S10000x128 : Shape := ⟨2, ![10000, 128]⟩
abbrev S10000x64 : Shape := ⟨2, ![10000, 64]⟩
abbrev S1x1 : Shape := ⟨2, ![1, 1]⟩

abbrev nBuf : Space → Nat
  | .hbm => 169
  | .vmem => 10
  | .smem => 0
  | _ => 0

abbrev hbmTy0_0 (i : Nat) : BufTy := match i % 128 with
  | 0 => ⟨S50000x17, .f32⟩
  | 1 => ⟨S2x800000, .i32⟩
  | 2 => ⟨S17x64, .f32⟩
  | 3 => ⟨S64, .f32⟩
  | 4 => ⟨S64x64, .f32⟩
  | 5 => ⟨S64, .f32⟩
  | 6 => ⟨S64x32, .f32⟩
  | 7 => ⟨S32, .f32⟩
  | 8 => ⟨S64x64, .f32⟩
  | 9 => ⟨S64, .f32⟩
  | 10 => ⟨S64x1, .f32⟩
  | 11 => ⟨S1, .f32⟩
  | 12 => ⟨S64x64, .f32⟩
  | 13 => ⟨S64, .f32⟩
  | 14 => ⟨S64x1, .f32⟩
  | 15 => ⟨S1, .f32⟩
  | 16 => ⟨S1x800000, .i32⟩
  | 17 => ⟨S800000, .i32⟩
  | 18 => ⟨S1x800000, .i32⟩
  | 19 => ⟨S800000, .i32⟩
  | 20 => ⟨S_, .f32⟩
  | 21 => ⟨S800000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S50000, .f32⟩
  | 28 => ⟨S50000, .f32⟩
  | 29 => ⟨S50000, .f32⟩
  | 30 => ⟨S50000x1, .f32⟩
  | 31 => ⟨S50000x1, .f32⟩
  | 32 => ⟨S_, .f32⟩
  | 33 => ⟨S50000x1, .f32⟩
  | 34 => ⟨S50000x1, .f32⟩
  | 35 => ⟨S_, .f32⟩
  | 36 => ⟨S50000x1, .f32⟩
  | 37 => ⟨S50000x1, .f32⟩
  | 38 => ⟨S50000x1, .f32⟩
  | 39 => ⟨S50000x1, .f32⟩
  | 40 => ⟨S_, .f32⟩
  | 41 => ⟨S50000x1, .f32⟩
  | 42 => ⟨S50000x1, .f32⟩
  | 43 => ⟨S50000x1, .f32⟩
  | 44 => ⟨S50000x1, .f32⟩
  | 45 => ⟨S_, .f32⟩
  | 46 => ⟨S50000x1, .f32⟩
  | 47 => ⟨S50000x1, .f32⟩
  | 48 => ⟨S50000x1, .f32⟩
  | 49 => ⟨S50000x16, .f32⟩
  | 50 => ⟨S50000x17, .f32⟩
  | 51 => ⟨S50000x17, .f32⟩
  | 52 => ⟨S50000x17, .f32⟩
  | 53 => ⟨S50000x64, .f32⟩
  | 54 => ⟨S50000x64, .f32⟩
  | 55 => ⟨S50000x64, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x64, .f32⟩
  | 65 => ⟨S_, .f32⟩
  | 66 => ⟨S50000x64, .f32⟩
  | 67 => ⟨S800000x1, .i32⟩
  | 68 => ⟨S50000x64, .f32⟩
  | 69 => ⟨S50000x64, .f32⟩
  | 70 => ⟨S50000x64, .f32⟩
  | 71 => ⟨S50000x64, .f32⟩
  | 72 => ⟨S1x64, .f32⟩
  | 73 => ⟨S50000x64, .f32⟩
  | 74 => ⟨S50000x64, .f32⟩
  | 75 => ⟨S_, .f32⟩
  | 76 => ⟨S50000x64, .f32⟩
  | 77 => ⟨S50000x64, .f32⟩
  | 78 => ⟨S50000x64, .f32⟩
  | 79 => ⟨S50000x64, .f32⟩
  | 80 => ⟨S50000x64, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S800000x64, .f32⟩
  | 90 => ⟨S_, .f32⟩
  | 91 => ⟨S50000x64, .f32⟩
  | 92 => ⟨S800000x1, .i32⟩
  | 93 => ⟨S50000x64, .f32⟩
  | 94 => ⟨S50000x64, .f32⟩
  | 95 => ⟨S50000x64, .f32⟩
  | 96 => ⟨S50000x64, .f32⟩
  | 97 => ⟨S1x64, .f32⟩
  | 98 => ⟨S50000x64, .f32⟩
  | 99 => ⟨S50000x64, .f32⟩
  | 100 => ⟨S_, .f32⟩
  | 101 => ⟨S50000x64, .f32⟩
  | 102 => ⟨S50000x64, .f32⟩
  | 103 => ⟨S50000x32, .f32⟩
  | 104 => ⟨S50000x32, .f32⟩
  | 105 => ⟨S50000x32, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x32, .f32⟩
  | 115 => ⟨S_, .f32⟩
  | 116 => ⟨S50000x32, .f32⟩
  | 117 => ⟨S800000x1, .i32⟩
  | 118 => ⟨S50000x32, .f32⟩
  | 119 => ⟨S50000x32, .f32⟩
  | 120 => ⟨S50000x32, .f32⟩
  | 121 => ⟨S50000x32, .f32⟩
  | 122 => ⟨S1x32, .f32⟩
  | 123 => ⟨S50000x32, .f32⟩
  | 124 => ⟨S50000x32, .f32⟩
  | 125 => ⟨S50000x16, .f32⟩
  | 126 => ⟨S50000x48, .f32⟩
  | 127 => ⟨S_, .i32⟩
  | _ => ⟨S50000x17, .f32⟩

abbrev hbmTy0_1 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000x48, .f32⟩
  | 8 => ⟨S_, .i32⟩
  | 9 => ⟨S800000, .i32⟩
  | 10 => ⟨S800000, .i1⟩
  | 11 => ⟨S_, .i32⟩
  | 12 => ⟨S800000, .i32⟩
  | 13 => ⟨S800000, .i32⟩
  | 14 => ⟨S800000, .i32⟩
  | 15 => ⟨S800000x1, .i32⟩
  | 16 => ⟨S800000x48, .f32⟩
  | 17 => ⟨S64x128, .f32⟩
  | 18 => ⟨S128, .f32⟩
  | 19 => ⟨S1x128, .f32⟩
  | 20 => ⟨S64, .f32⟩
  | 21 => ⟨S64, .f32⟩
  | 22 => ⟨S128, .f32⟩
  | 23 => ⟨S1x128, .f32⟩
  | 24 => ⟨S_, .f32⟩
  | 25 => ⟨S1x128, .f32⟩
  | 26 => ⟨S_, .f32⟩
  | 27 => ⟨S_, .i32⟩
  | 28 => ⟨S1, .i32⟩
  | 29 => ⟨S_, .i32⟩
  | 30 => ⟨S1, .i32⟩
  | 31 => ⟨S2, .i32⟩
  | 32 => ⟨S1x128, .f32⟩
  | 33 => ⟨S_, .f32⟩
  | 34 => ⟨S_, .i32⟩
  | 35 => ⟨S1, .i32⟩
  | 36 => ⟨S_, .i32⟩
  | 37 => ⟨S1, .i32⟩
  | 38 => ⟨S2, .i32⟩
  | 39 => ⟨S1x128, .f32⟩
  | 40 => ⟨S80x1x10000, .f32⟩
  | _ => ⟨S50000x17, .f32⟩

abbrev hbmTy (i : Nat) : BufTy := match i / 128 with
  | 0 => hbmTy0_0 i
  | 1 => hbmTy0_1 i
  | _ => ⟨S50000x17, .f32⟩

abbrev bufTy : (tb : Table) → Fin (tcTables nBuf tb) → BufTy
  | .hbm, ⟨i, _⟩ => hbmTy i
  | .local _ .vmem, ⟨0, _⟩ => ⟨S10000x48, .f32⟩
  | .local _ .vmem, ⟨1, _⟩ => ⟨S10000x48, .f32⟩
  | .local _ .vmem, ⟨2, _⟩ => ⟨S10000x48, .f32⟩
  | .local _ .vmem, ⟨3, _⟩ => ⟨S10000x48, .f32⟩
  | .local _ .vmem, ⟨4, _⟩ => ⟨S64x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x1x10000, .f32⟩
  | .local _ .vmem, ⟨9, _⟩ => ⟨S1x1x10000, .f32⟩
  | _, _ => ⟨S50000x17, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_2 : Ref sig .tc := ⟨.hbm, 32, rfl⟩
abbrev main_v13 : Ref sig .tc := ⟨.hbm, 33, rfl⟩
abbrev main_v14 : Ref sig .tc := ⟨.hbm, 34, rfl⟩
abbrev main_cst_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_cst_4 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_c : Ref sig .tc := ⟨.hbm, 56, rfl⟩
abbrev main_v33 : Ref sig .tc := ⟨.hbm, 57, rfl⟩
abbrev main_v34 : Ref sig .tc := ⟨.hbm, 58, rfl⟩
abbrev main_c_6 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_call1_cst : Ref sig .tc := ⟨.hbm, 75, rfl⟩
abbrev main_call1_v0 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_c_8 : Ref sig .tc := ⟨.hbm, 81, rfl⟩
abbrev main_v53 : Ref sig .tc := ⟨.hbm, 82, rfl⟩
abbrev main_v54 : Ref sig .tc := ⟨.hbm, 83, rfl⟩
abbrev main_c_9 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_cst_10 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_call2_cst : Ref sig .tc := ⟨.hbm, 100, rfl⟩
abbrev main_call2_v0 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_c_11 : Ref sig .tc := ⟨.hbm, 106, rfl⟩
abbrev main_v73 : Ref sig .tc := ⟨.hbm, 107, rfl⟩
abbrev main_v74 : Ref sig .tc := ⟨.hbm, 108, rfl⟩
abbrev main_c_12 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_13 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_c_14 : Ref sig .tc := ⟨.hbm, 127, rfl⟩
abbrev main_v91 : Ref sig .tc := ⟨.hbm, 128, rfl⟩
abbrev main_v92 : Ref sig .tc := ⟨.hbm, 129, rfl⟩
abbrev main_c_15 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_c_16 : Ref sig .tc := ⟨.hbm, 136, rfl⟩
abbrev main_v98 : Ref sig .tc := ⟨.hbm, 137, rfl⟩
abbrev main_v99 : Ref sig .tc := ⟨.hbm, 138, rfl⟩
abbrev main_c_17 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_cst_18 : Ref sig .tc := ⟨.hbm, 152, rfl⟩
abbrev main_v112 : Ref sig .tc := ⟨.hbm, 153, rfl⟩
abbrev main_v113 : Ref sig .tc := ⟨.hbm, 154, rfl⟩
abbrev main_c_19 : Ref sig .tc := ⟨.hbm, 155, rfl⟩
abbrev main_v114 : Ref sig .tc := ⟨.hbm, 156, rfl⟩
abbrev main_c_20 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_c_21 : Ref sig .tc := ⟨.hbm, 162, rfl⟩
abbrev main_v119 : Ref sig .tc := ⟨.hbm, 163, rfl⟩
abbrev main_c_22 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S10000x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x48 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x10000 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S50000x17 : Shape := ⟨2, ![50000, 17]⟩
abbrev S2x800000 : Shape := ⟨2, ![2, 800000]⟩
abbrev S17x64 : Shape := ⟨2, ![17, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S64x1 : Shape := ⟨2, ![64, 1]⟩
abbrev S1 : Shape := ⟨1, ![1]⟩
abbrev S50000x1 : Shape := ⟨2, ![50000, 1]⟩
abbrev S_ : Shape := ⟨0, ![]⟩
abbrev S50000x16 : Shape := ⟨2, ![50000, 16]⟩
abbrev S1x800000 : Shape := ⟨2, ![1, 800000]⟩
abbrev S800000 : Shape := ⟨1, ![800000]⟩
abbrev S800000x1 : Shape := ⟨2, ![800000, 1]⟩
abbrev S800000x17 : Shape := ⟨2, ![800000, 17]⟩
abbrev S800000x16 : Shape := ⟨2, ![800000, 16]⟩
abbrev S50000 : Shape := ⟨1, ![50000]⟩
abbrev S850000 : Shape := ⟨1, ![850000]⟩
abbrev S850000x1 : Shape := ⟨2, ![850000, 1]⟩
abbrev S50000x64 : Shape := ⟨2, ![50000, 64]⟩
abbrev S850000x64 : Shape := ⟨2, ![850000, 64]⟩
abbrev S1x64 : Shape := ⟨2, ![1, 64]⟩
abbrev S50000x32 : Shape := ⟨2, ![50000, 32]⟩
abbrev S850000x32 : Shape := ⟨2, ![850000, 32]⟩
abbrev S1x32 : Shape := ⟨2, ![1, 32]⟩
abbrev S800000x32 : Shape := ⟨2, ![800000, 32]⟩
abbrev S800000x64 : Shape := ⟨2, ![800000, 64]⟩
abbrev S1x1 : Shape := ⟨2, ![1, 1]⟩
abbrev S80x1x10000 : Shape := ⟨3, ![80, 1, 10000]⟩

abbrev nBuf : Space → Nat
  | .hbm => 281
  | .vmem => 0
  | .smem => 0
  | _ => 0

abbrev hbmTy0_0 (i : Nat) : BufTy := match i % 128 with
  | 0 => ⟨S50000x17, .f32⟩
  | 1 => ⟨S2x800000, .i32⟩
  | 2 => ⟨S17x64, .f32⟩
  | 3 => ⟨S64, .f32⟩
  | 4 => ⟨S64x64, .f32⟩
  | 5 => ⟨S64, .f32⟩
  | 6 => ⟨S64x32, .f32⟩
  | 7 => ⟨S32, .f32⟩
  | 8 => ⟨S64x64, .f32⟩
  | 9 => ⟨S64, .f32⟩
  | 10 => ⟨S64x1, .f32⟩
  | 11 => ⟨S1, .f32⟩
  | 12 => ⟨S64x64, .f32⟩
  | 13 => ⟨S64, .f32⟩
  | 14 => ⟨S64x1, .f32⟩
  | 15 => ⟨S1, .f32⟩
  | 16 => ⟨S50000x1, .f32⟩
  | 17 => ⟨S_, .f32⟩
  | 18 => ⟨S50000x1, .f32⟩
  | 19 => ⟨S50000x1, .f32⟩
  | 20 => ⟨S_, .f32⟩
  | 21 => ⟨S50000x1, .f32⟩
  | 22 => ⟨S50000x1, .f32⟩
  | 23 => ⟨S50000x1, .f32⟩
  | 24 => ⟨S50000x1, .f32⟩
  | 25 => ⟨S_, .f32⟩
  | 26 => ⟨S50000x1, .f32⟩
  | 27 => ⟨S50000x1, .f32⟩
  | 28 => ⟨S50000x1, .f32⟩
  | 29 => ⟨S50000x1, .f32⟩
  | 30 => ⟨S_, .f32⟩
  | 31 => ⟨S50000x1, .f32⟩
  | 32 => ⟨S50000x1, .f32⟩
  | 33 => ⟨S50000x1, .f32⟩
  | 34 => ⟨S50000x16, .f32⟩
  | 35 => ⟨S50000x17, .f32⟩
  | 36 => ⟨S50000x17, .f32⟩
  | 37 => ⟨S50000x17, .f32⟩
  | 38 => ⟨S1x800000, .i32⟩
  | 39 => ⟨S800000, .i32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x17, .f32⟩
  | 49 => ⟨S1x800000, .i32⟩
  | 50 => ⟨S800000, .i32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S800000x17, .f32⟩
  | 60 => ⟨S800000x1, .f32⟩
  | 61 => ⟨S800000, .f32⟩
  | 62 => ⟨S800000, .f32⟩
  | 63 => ⟨S800000x1, .f32⟩
  | 64 => ⟨S800000, .f32⟩
  | 65 => ⟨S800000, .f32⟩
  | 66 => ⟨S800000x16, .f32⟩
  | 67 => ⟨S800000x16, .f32⟩
  | 68 => ⟨S800000x16, .f32⟩
  | 69 => ⟨S_, .f32⟩
  | 70 => ⟨S800000, .f32⟩
  | 71 => ⟨S800000, .f32⟩
  | 72 => ⟨S800000, .f32⟩
  | 73 => ⟨S_, .f32⟩
  | 74 => ⟨S800000, .f32⟩
  | 75 => ⟨S800000, .f32⟩
  | 76 => ⟨S_, .f32⟩
  | 77 => ⟨S800000, .f32⟩
  | 78 => ⟨S800000, .f32⟩
  | 79 => ⟨S800000, .f32⟩
  | 80 => ⟨S_, .f32⟩
  | 81 => ⟨S800000, .f32⟩
  | 82 => ⟨S800000, .f32⟩
  | 83 => ⟨S_, .f32⟩
  | 84 => ⟨S800000, .f32⟩
  | 85 => ⟨S800000, .f32⟩
  | 86 => ⟨S50000, .i32⟩
  | 87 => ⟨S1x800000, .i32⟩
  | 88 => ⟨S800000, .i32⟩
  | 89 => ⟨S850000, .i32⟩
  | 90 => ⟨S1x800000, .i32⟩
  | 91 => ⟨S800000, .i32⟩
  | 92 => ⟨S850000, .i32⟩
  | 93 => ⟨S_, .f32⟩
  | 94 => ⟨S50000, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S_, .f32⟩
  | 104 => ⟨S850000, .f32⟩
  | 105 => ⟨S50000, .f32⟩
  | 106 => ⟨S50000, .f32⟩
  | 107 => ⟨S_, .i32⟩
  | 108 => ⟨S850000, .i32⟩
  | 109 => ⟨S850000, .i1⟩
  | 110 => ⟨S_, .i32⟩
  | 111 => ⟨S850000, .i32⟩
  | 112 => ⟨S850000, .i32⟩
  | 113 => ⟨S850000, .i32⟩
  | 114 => ⟨S850000x1, .i32⟩
  | 115 => ⟨S850000, .f32⟩
  | 116 => ⟨S_, .i32⟩
  | 117 => ⟨S850000, .i32⟩
  | 118 => ⟨S850000, .i1⟩
  | 119 => ⟨S_, .i32⟩
  | 120 => ⟨S850000, .i32⟩
  | 121 => ⟨S850000, .i32⟩
  | 122 => ⟨S850000, .i32⟩
  | 123 => ⟨S850000x1, .i32⟩
  | 124 => ⟨S850000, .f32⟩
  | 125 => ⟨S850000, .f32⟩
  | 126 => ⟨S850000x1, .f32⟩
  | 127 => ⟨S50000x64, .f32⟩
  | _ => ⟨S50000x17, .f32⟩

abbrev hbmTy0_1 (i : Nat) : BufTy := match i % 128 with
  | 0 => ⟨S_, .i32⟩
  | 1 => ⟨S850000, .i32⟩
  | 2 => ⟨S850000, .i1⟩
  | 3 => ⟨S_, .i32⟩
  | 4 => ⟨S850000, .i32⟩
  | 5 => ⟨S850000, .i32⟩
  | 6 => ⟨S850000, .i32⟩
  | 7 => ⟨S850000x1, .i32⟩
  | 8 => ⟨S850000x64, .f32⟩
  | 9 => ⟨S850000x64, .f32⟩
  | 10 => ⟨S850000x64, .f32⟩
  | 11 => ⟨S_, .f32⟩
  | 12 => ⟨S50000x64, .f32⟩
  | 13 => ⟨S850000x1, .i32⟩
  | 14 => ⟨S50000x64, .f32⟩
  | 15 => ⟨S1x64, .f32⟩
  | 16 => ⟨S50000x64, .f32⟩
  | 17 => ⟨S50000x64, .f32⟩
  | 18 => ⟨S_, .f32⟩
  | 19 => ⟨S50000x64, .f32⟩
  | 20 => ⟨S50000x64, .f32⟩
  | 21 => ⟨S50000x64, .f32⟩
  | 22 => ⟨S_, .i32⟩
  | 23 => ⟨S850000, .i32⟩
  | 24 => ⟨S850000, .i1⟩
  | 25 => ⟨S_, .i32⟩
  | 26 => ⟨S850000, .i32⟩
  | 27 => ⟨S850000, .i32⟩
  | 28 => ⟨S850000, .i32⟩
  | 29 => ⟨S850000x1, .i32⟩
  | 30 => ⟨S850000x64, .f32⟩
  | 31 => ⟨S850000x64, .f32⟩
  | 32 => ⟨S850000x64, .f32⟩
  | 33 => ⟨S_, .f32⟩
  | 34 => ⟨S50000x64, .f32⟩
  | 35 => ⟨S850000x1, .i32⟩
  | 36 => ⟨S50000x64, .f32⟩
  | 37 => ⟨S1x64, .f32⟩
  | 38 => ⟨S50000x64, .f32⟩
  | 39 => ⟨S50000x64, .f32⟩
  | 40 => ⟨S_, .f32⟩
  | 41 => ⟨S50000x64, .f32⟩
  | 42 => ⟨S50000x64, .f32⟩
  | 43 => ⟨S50000x32, .f32⟩
  | 44 => ⟨S_, .i32⟩
  | 45 => ⟨S850000, .i32⟩
  | 46 => ⟨S850000, .i1⟩
  | 47 => ⟨S_, .i32⟩
  | 48 => ⟨S850000, .i32⟩
  | 49 => ⟨S850000, .i32⟩
  | 50 => ⟨S850000, .i32⟩
  | 51 => ⟨S850000x1, .i32⟩
  | 52 => ⟨S850000x32, .f32⟩
  | 53 => ⟨S850000x32, .f32⟩
  | 54 => ⟨S850000x32, .f32⟩
  | 55 => ⟨S_, .f32⟩
  | 56 => ⟨S50000x32, .f32⟩
  | 57 => ⟨S850000x1, .i32⟩
  | 58 => ⟨S50000x32, .f32⟩
  | 59 => ⟨S1x32, .f32⟩
  | 60 => ⟨S50000x32, .f32⟩
  | 61 => ⟨S50000x32, .f32⟩
  | 62 => ⟨S1x800000, .i32⟩
  | 63 => ⟨S800000, .i32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x32, .f32⟩
  | 73 => ⟨S1x800000, .i32⟩
  | 74 => ⟨S800000, .i32⟩
  | 75 => ⟨S_, .i32⟩
  | 76 => ⟨S800000, .i32⟩
  | 77 => ⟨S800000, .i1⟩
  | 78 => ⟨S_, .i32⟩
  | 79 => ⟨S800000, .i32⟩
  | 80 => ⟨S800000, .i32⟩
  | 81 => ⟨S800000, .i32⟩
  | 82 => ⟨S800000x1, .i32⟩
  | 83 => ⟨S800000x32, .f32⟩
  | 84 => ⟨S800000x64, .f32⟩
  | 85 => ⟨S1x800000, .i32⟩
  | 86 => ⟨S800000, .i32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x32, .f32⟩
  | 96 => ⟨S1x800000, .i32⟩
  | 97 => ⟨S800000, .i32⟩
  | 98 => ⟨S_, .i32⟩
  | 99 => ⟨S800000, .i32⟩
  | 100 => ⟨S800000, .i1⟩
  | 101 => ⟨S_, .i32⟩
  | 102 => ⟨S800000, .i32⟩
  | 103 => ⟨S800000, .i32⟩
  | 104 => ⟨S800000, .i32⟩
  | 105 => ⟨S800000x1, .i32⟩
  | 106 => ⟨S800000x32, .f32⟩
  | 107 => ⟨S800000x64, .f32⟩
  | 108 => ⟨S800000x64, .f32⟩
  | 109 => ⟨S1x64, .f32⟩
  | 110 => ⟨S800000x64, .f32⟩
  | 111 => ⟨S800000x64, .f32⟩
  | 112 => ⟨S_, .f32⟩
  | 113 => ⟨S_, .f32⟩
  | 114 => ⟨S800000x64, .f32⟩
  | 115 => ⟨S800000x64, .i1⟩
  | 116 => ⟨S_, .f32⟩
  | 117 => ⟨S800000x64, .f32⟩
  | 118 => ⟨S800000x64, .f32⟩
  | 119 => ⟨S800000x64, .f32⟩
  | 120 => ⟨S800000x1, .f32⟩
  | 121 => ⟨S1x1, .f32⟩
  | 122 => ⟨S800000x1, .f32⟩
  | 123 => ⟨S800000x1, .f32⟩
  | 124 => ⟨S800000, .f32⟩
  | 125 => ⟨S800000x64, .f32⟩
  | 126 => ⟨S1x64, .f32⟩
  | 127 => ⟨S800000x64, .f32⟩
  | _ => ⟨S50000x17, .f32⟩

abbrev hbmTy0_2 (i : Nat) : BufTy := match i % 128 with
  | 0 => ⟨S800000x64, .f32⟩
  | 1 => ⟨S_, .f32⟩
  | 2 => ⟨S_, .f32⟩
  | 3 => ⟨S800000x64, .f32⟩
  | 4 => ⟨S800000x64, .i1⟩
  | 5 => ⟨S_, .f32⟩
  | 6 => ⟨S800000x64, .f32⟩
  | 7 => ⟨S800000x64, .f32⟩
  | 8 => ⟨S800000x64, .f32⟩
  | 9 => ⟨S800000x1, .f32⟩
  | 10 => ⟨S1x1, .f32⟩
  | 11 => ⟨S800000x1, .f32⟩
  | 12 => ⟨S800000x1, .f32⟩
  | 13 => ⟨S800000, .f32⟩
  | 14 => ⟨S800000, .f32⟩
  | 15 => ⟨S800000, .f32⟩
  | 16 => ⟨S800000, .f32⟩
  | 17 => ⟨S800000, .f32⟩
  | 18 => ⟨S_, .f32⟩
  | 19 => ⟨S800000, .f32⟩
  | 20 => ⟨S800000, .f32⟩
  | 21 => ⟨S_, .f32⟩
  | 22 => ⟨S800000, .f32⟩
  | 23 => ⟨S800000, .f32⟩
  | 24 => ⟨S80x1x10000, .f32⟩
  | _ => ⟨S50000x17, .f32⟩

abbrev hbmTy (i : Nat) : BufTy := match i / 128 with
  | 0 => hbmTy0_0 i
  | 1 => hbmTy0_1 i
  | 2 => hbmTy0_2 i
  | _ => ⟨S50000x17, .f32⟩

abbrev bufTy : (tb : Table) → Fin (tcTables nBuf tb) → BufTy
  | .hbm, ⟨i, _⟩ => hbmTy i
  | _, _ => ⟨S50000x17, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_cst : Ref sig .tc := ⟨.hbm, 17, rfl⟩
abbrev main_v1 : Ref sig .tc := ⟨.hbm, 18, rfl⟩
abbrev main_v2 : Ref sig .tc := ⟨.hbm, 19, rfl⟩
abbrev main_cst_0 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst_1 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_2 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_c : Ref sig .tc := ⟨.hbm, 40, rfl⟩
abbrev main_v20 : Ref sig .tc := ⟨.hbm, 41, rfl⟩
abbrev main_v21 : Ref sig .tc := ⟨.hbm, 42, rfl⟩
abbrev main_c_3 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_4 : Ref sig .tc := ⟨.hbm, 51, rfl⟩
abbrev main_v29 : Ref sig .tc := ⟨.hbm, 52, rfl⟩
abbrev main_v30 : Ref sig .tc := ⟨.hbm, 53, rfl⟩
abbrev main_c_5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_6 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_7 : Ref sig .tc := ⟨.hbm, 73, rfl⟩
abbrev main_v48 : Ref sig .tc := ⟨.hbm, 74, rfl⟩
abbrev main_v49 : Ref sig .tc := ⟨.hbm, 75, rfl⟩
abbrev main_cst_8 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_9 : Ref sig .tc := ⟨.hbm, 80, rfl⟩
abbrev main_v53 : Ref sig .tc := ⟨.hbm, 81, rfl⟩
abbrev main_v54 : Ref sig .tc := ⟨.hbm, 82, rfl⟩
abbrev main_cst_10 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_11 : Ref sig .tc := ⟨.hbm, 93, rfl⟩
abbrev main_v64 : Ref sig .tc := ⟨.hbm, 94, rfl⟩
abbrev main_c_12 : Ref sig .tc := ⟨.hbm, 95, rfl⟩
abbrev main_v65 : Ref sig .tc := ⟨.hbm, 96, rfl⟩
abbrev main_v66 : Ref sig .tc := ⟨.hbm, 97, rfl⟩
abbrev main_c_13 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_15 : Ref sig .tc := ⟨.hbm, 107, rfl⟩
abbrev main_v74 : Ref sig .tc := ⟨.hbm, 108, rfl⟩
abbrev main_v75 : Ref sig .tc := ⟨.hbm, 109, rfl⟩
abbrev main_c_16 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_c_17 : Ref sig .tc := ⟨.hbm, 116, rfl⟩
abbrev main_v81 : Ref sig .tc := ⟨.hbm, 117, rfl⟩
abbrev main_v82 : Ref sig .tc := ⟨.hbm, 118, rfl⟩
abbrev main_c_18 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_c_19 : Ref sig .tc := ⟨.hbm, 128, rfl⟩
abbrev main_v91 : Ref sig .tc := ⟨.hbm, 129, rfl⟩
abbrev main_v92 : Ref sig .tc := ⟨.hbm, 130, rfl⟩
abbrev main_c_20 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_21 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_call2_cst : Ref sig .tc := ⟨.hbm, 146, rfl⟩
abbrev main_call2_v0 : Ref sig .tc := ⟨.hbm, 147, rfl⟩
abbrev main_v106 : Ref sig .tc := ⟨.hbm, 148, rfl⟩
abbrev main_v107 : Ref sig .tc := ⟨.hbm, 149, rfl⟩
abbrev main_c_22 : Ref sig .tc := ⟨.hbm, 150, rfl⟩
abbrev main_v108 : Ref sig .tc := ⟨.hbm, 151, rfl⟩
abbrev main_v109 : Ref sig .tc := ⟨.hbm, 152, rfl⟩
abbrev main_c_23 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_cst_24 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_call3_cst : Ref sig .tc := ⟨.hbm, 168, rfl⟩
abbrev main_call3_v0 : Ref sig .tc := ⟨.hbm, 169, rfl⟩
abbrev main_v123 : Ref sig .tc := ⟨.hbm, 170, rfl⟩
abbrev main_v124 : Ref sig .tc := ⟨.hbm, 171, rfl⟩
abbrev main_c_25 : Ref sig .tc := ⟨.hbm, 172, rfl⟩
abbrev main_v125 : Ref sig .tc := ⟨.hbm, 173, rfl⟩
abbrev main_v126 : Ref sig .tc := ⟨.hbm, 174, rfl⟩
abbrev main_c_26 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_cst_27 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_c_28 : Ref sig .tc := ⟨.hbm, 192, rfl⟩
abbrev main_v142 : Ref sig .tc := ⟨.hbm, 193, rfl⟩
abbrev main_v143 : Ref sig .tc := ⟨.hbm, 194, rfl⟩
abbrev main_c_29 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_c_30 : Ref sig .tc := ⟨.hbm, 203, rfl⟩
abbrev main_v151 : Ref sig .tc := ⟨.hbm, 204, rfl⟩
abbrev main_v152 : Ref sig .tc := ⟨.hbm, 205, rfl⟩
abbrev main_c_31 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_c_32 : Ref sig .tc := ⟨.hbm, 215, rfl⟩
abbrev main_v161 : Ref sig .tc := ⟨.hbm, 216, rfl⟩
abbrev main_v162 : Ref sig .tc := ⟨.hbm, 217, rfl⟩
abbrev main_c_33 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_v166 : Ref sig .tc := ⟨.hbm, 222, rfl⟩
abbrev main_v167 : Ref sig .tc := ⟨.hbm, 223, rfl⟩
abbrev main_v168 : Ref sig .tc := ⟨.hbm, 224, rfl⟩
abbrev main_v169 : Ref sig .tc := ⟨.hbm, 225, rfl⟩
abbrev main_c_34 : Ref sig .tc := ⟨.hbm, 226, rfl⟩
abbrev main_v170 : Ref sig .tc := ⟨.hbm, 227, rfl⟩
abbrev main_v171 : Ref sig .tc := ⟨.hbm, 228, rfl⟩
abbrev main_c_35 : Ref sig .tc := ⟨.hbm, 229, rfl⟩
abbrev main_v172 : Ref sig .tc := ⟨.hbm, 230, rfl⟩
abbrev main_v173 : Ref sig .tc := ⟨.hbm, 231, rfl⟩
abbrev main_v174 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_v178 : Ref sig .tc := ⟨.hbm, 236, rfl⟩
abbrev main_v179 : Ref sig .tc := ⟨.hbm, 237, rfl⟩
abbrev main_v180 : Ref sig .tc := ⟨.hbm, 238, rfl⟩
abbrev main_v181 : Ref sig .tc := ⟨.hbm, 239, rfl⟩
abbrev main_cst_36 : Ref sig .tc := ⟨.hbm, 240, rfl⟩
abbrev main_call4_cst : Ref sig .tc := ⟨.hbm, 241, rfl⟩
abbrev main_call4_v0 : Ref sig .tc := ⟨.hbm, 242, rfl⟩
abbrev main_call4_v1 : Ref sig .tc := ⟨.hbm, 243, rfl⟩
abbrev main_call4_v2 : Ref sig .tc := ⟨.hbm, 244, rfl⟩
abbrev main_call4_v3 : Ref sig .tc := ⟨.hbm, 245, rfl⟩
abbrev main_call4_v4 : Ref sig .tc := ⟨.hbm, 246, rfl⟩
abbrev main_v182 : Ref sig .tc := ⟨.hbm, 247, rfl⟩
abbrev main_v183 : Ref sig .tc := ⟨.hbm, 248, rfl⟩
abbrev main_v184 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_v191 : Ref sig .tc := ⟨.hbm, 256, rfl⟩
abbrev main_cst_37 : Ref sig .tc := ⟨.hbm, 257, rfl⟩
abbrev main_call5_cst : Ref sig .tc := ⟨.hbm, 258, rfl⟩
abbrev main_call5_v0 : Ref sig .tc := ⟨.hbm, 259, rfl⟩
abbrev main_call5_v1 : Ref sig .tc := ⟨.hbm, 260, rfl⟩
abbrev main_call5_v2 : Ref sig .tc := ⟨.hbm, 261, rfl⟩
abbrev main_call5_v3 : Ref sig .tc := ⟨.hbm, 262, rfl⟩
abbrev main_call5_v4 : Ref sig .tc := ⟨.hbm, 263, rfl⟩
abbrev main_v192 : Ref sig .tc := ⟨.hbm, 264, rfl⟩
abbrev main_v193 : Ref sig .tc := ⟨.hbm, 265, rfl⟩
abbrev main_v194 : Ref sig .tc := ⟨.hbm, 266, rfl⟩
abbrev main_v195 : Ref sig .tc := ⟨.hbm, 267, rfl⟩
abbrev main_v196 : Ref sig .tc := ⟨.hbm, 268, rfl⟩
abbrev main_v197 : Ref sig .tc := ⟨.hbm, 269, rfl⟩
abbrev main_v198 : Ref sig .tc := ⟨.hbm, 270, rfl⟩
abbrev main_v199 : Ref sig .tc := ⟨.hbm, 271, rfl⟩
abbrev main_v200 : Ref sig .tc := ⟨.hbm, 272, rfl⟩
abbrev main_v201 : Ref sig .tc := ⟨.hbm, 273, rfl⟩
abbrev main_cst_38 : Ref sig .tc := ⟨.hbm, 274, rfl⟩
abbrev main_v202 : Ref sig .tc := ⟨.hbm, 275, rfl⟩
abbrev main_v203 : Ref sig .tc := ⟨.hbm, 276, rfl⟩
abbrev main_cst_39 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩

abbrev nD : Nat := 1
abbrev τ : Topo := Topo.v7x

variable {F : FTy → Type} [FloatOps F]
-- ==== Proof.KernelHost.lean ====
/- What the host operations before the grid leave in the six arrays the kernel reads, as functions of the arguments.

   The host splits the edge list, counts degrees, encodes the node table (`acosh` map at the origin), runs the three
   graph convolutions, and gathers the endpoints' feature rows. The operations are cut into stages; each stage's
   results are stated over any contents it may start from, and a chain of the stages gives the six arrays. -/
module

public import proofs.«01_k».proof.Proof.Gen.KernelIdeal.Frame
public import Idealize.ShloMosaic.Lib.StableHlo.Run

@[expose] public section

set_option maxRecDepth 16384

noncomputable section

namespace Cert.KernelIdeal.Net

open Cert.KernelIdeal Cert.KernelIdeal.Gen Idealize.ShloMosaic Idealize.ShloMosaic.TcCoe Idealize.ShloMosaic.StableHlo

variable {F : FTy → Type} [FloatOps F]

/-! ## The host computation as functions of arrays -/

/-- The edges' source words. -/
def srcOf (ei : IVec S2x800000 32) : IVec S800000 32 :=
  shapeCast S800000 (extractStridedSlice S1x800000 ![0, 0] ei slices_S2x800000_S1x800000_0_0) shapeCasts_S1x800000_S800000
/-- The edges' destination words. -/
def dstOf (ei : IVec S2x800000 32) : IVec S800000 32 :=
  shapeCast S800000 (extractStridedSlice S1x800000 ![1, 0] ei slices_S2x800000_S1x800000_1_0) shapeCasts_S1x800000_S800000
/-- Words as a column. -/
def rawCol (w : IVec S800000 32) : IVec S800000x1 32 := broadcastInDim S800000x1 ![0] bcast_S800000_S800000x1_0 w
/-- Words as a column, a negative one counted from the table's end. -/
def wrapCol (w : IVec S800000 32) : IVec S800000x1 32 :=
  broadcastInDim S800000x1 ![0] bcast_S800000_S800000x1_0
    (select (cmpi .slt w (broadcastInDim S800000 ![] bcast_S_S800000 (constantI S_ 32 0#32)))
      (addi w (broadcastInDim S800000 ![] bcast_S_S800000 (constantI S_ 32 50000#32))) w)
/-- The reciprocal root of each node's degree, the loop counted, as a column. -/
def dinvCol (d : IVec S800000 32) : FVec F S50000x1 .f32 :=
  broadcastInDim S50000x1 ![0] bcast_S50000_S50000x1_0
    (Host.rsqrt (addf (broadcastInDim S50000 ![] bcast_S_S50000 (constant S_ .f32 0x3F800000#32))
      (Host.scatterAdd scatter_S50000_S800000x1_S800000_n_0_0_1 (broadcastInDim S50000 ![] bcast_S_S50000 (constant S_ .f32 0x00000000#32)) (rawCol d)
        (broadcastInDim S800000 ![] bcast_S_S800000 (constant S_ .f32 0x3F800000#32)))))
/-- The points' first coordinate. -/
def lead (z : FVec F S50000x17 .f32) : FVec F S50000x1 .f32 := extractStridedSlice S50000x1 ![0, 0] z slices_S50000x17_S50000x1_0_0
/-- The points' other coordinates. -/
def rest (z : FVec F S50000x17 .f32) : FVec F S50000x16 .f32 := extractStridedSlice S50000x16 ![0, 1] z slices_S50000x17_S50000x16_0_1
/-- The first coordinate kept from below. -/
def alpha (z : FVec F S50000x17 .f32) : FVec F S50000x1 .f32 :=
  maximumf (Host.divf (lead z) (broadcastInDim S50000x1 ![] bcast_S_S50000x1 (constant S_ .f32 0x3F800000#32)))
    (broadcastInDim S50000x1 ![] bcast_S_S50000x1 (constant S_ .f32 0x3F800001#32))
/-- The factor of the encoded point, from the kept first coordinate `a` and its inverse hyperbolic cosine `s`. -/
def encScale (a s : FVec F S50000x1 .f32) : FVec F S50000x1 .f32 :=
  Host.divf s (Host.sqrt (subf (mulf a a) (broadcastInDim S50000x1 ![] bcast_S_S50000x1 (constant S_ .f32 0x3F800000#32))))
/-- The encoded point's first coordinate before the factor. -/
def encLead (l a : FVec F S50000x1 .f32) : FVec F S50000x1 .f32 :=
  subf l (mulf a (broadcastInDim S50000x1 ![] bcast_S_S50000x1 (constant S_ .f32 0x3F800000#32)))
/-- The encoded points, projected by the first weights. -/
def encDot (sc l : FVec F S50000x1 .f32) (v : FVec F S50000x16 .f32) (W : FVec F S17x64 .f32) : FVec F S50000x64 .f32 :=
  Host.dotGeneral dot_S50000x17_S17x64_S50000x64_1_0_0_1_n_n none
    (mulf (broadcastInDim S50000x17 ![0, 1] bcast_S50000x1_S50000x17_0_1 sc)
      (concatenate S50000x17 1 [⟨S50000x1, l⟩, ⟨S50000x16, v⟩] concatenates_S50000x1_S50000x16_S50000x17_d1)) W
/-- The encoded points, projected, of the node table. -/
def enc (z : FVec F S50000x17 .f32) (W : FVec F S17x64 .f32) : FVec F S50000x64 .f32 :=
  encDot (encScale (alpha z) (Host.acosh (alpha z))) (encLead (lead z) (alpha z)) (rest z) W
/-- One convolution, of 64 columns: each node's row and its neighbours', scaled on both sides, plus the bias. -/
def layer64 (dv : FVec F S50000x1 .f32) (s d : IVec S800000 32) (X : FVec F S50000x64 .f32) (b : FVec F S64 .f32) : FVec F S50000x64 .f32 :=
  addf (mulf (broadcastInDim S50000x64 ![0, 1] bcast_S50000x1_S50000x64_0_1 dv)
      (addf (Host.scatterAdd scatter_S50000x64_S800000x1_S800000x64_1_0_0_1 (broadcastInDim S50000x64 ![] bcast_S_S50000x64 (constant S_ .f32 0x00000000#32)) (rawCol d)
          (Host.gather gather_S50000x64_S800000x1_S800000x64_1_0_n_n_0_1_164 (mulf X (broadcastInDim S50000x64 ![0, 1] bcast_S50000x1_S50000x64_0_1 dv)) (wrapCol s)))
        (mulf X (broadcastInDim S50000x64 ![0, 1] bcast_S50000x1_S50000x64_0_1 dv))))
    (broadcastInDim S50000x64 ![0, 1] bcast_S1x64_S50000x64_0_1 (broadcastInDim S1x64 ![1] bcast_S64_S1x64_1 b))
/-- One convolution, of 32 columns. -/
def layer32 (dv : FVec F S50000x1 .f32) (s d : IVec S800000 32) (X : FVec F S50000x32 .f32) (b : FVec F S32 .f32) : FVec F S50000x32 .f32 :=
  addf (mulf (broadcastInDim S50000x32 ![0, 1] bcast_S50000x1_S50000x32_0_1 dv)
      (addf (Host.scatterAdd scatter_S50000x32_S800000x1_S800000x32_1_0_0_1 (broadcastInDim S50000x32 ![] bcast_S_S50000x32 (constant S_ .f32 0x00000000#32)) (rawCol d)
          (Host.gather gather_S50000x32_S800000x1_S800000x32_1_0_n_n_0_1_132 (mulf X (broadcastInDim S50000x32 ![0, 1] bcast_S50000x1_S50000x32_0_1 dv)) (wrapCol s)))
        (mulf X (broadcastInDim S50000x32 ![0, 1] bcast_S50000x1_S50000x32_0_1 dv))))
    (broadcastInDim S50000x32 ![0, 1] bcast_S1x32_S50000x32_0_1 (broadcastInDim S1x32 ![1] bcast_S32_S1x32_1 b))
/-- The rectifier. -/
def relu (X : FVec F S50000x64 .f32) : FVec F S50000x64 .f32 := maximumf X (broadcastInDim S50000x64 ![] bcast_S_S50000x64 (constant S_ .f32 0x00000000#32))
/-- The projection by the second weights. -/
def proj2 (X : FVec F S50000x64 .f32) (W : FVec F S64x64 .f32) : FVec F S50000x64 .f32 := Host.dotGeneral dot_S50000x64_S64x64_S50000x64_1_0_0_1_n_n none X W
/-- The projection by the third weights. -/
def proj3 (X : FVec F S50000x64 .f32) (W : FVec F S64x32 .f32) : FVec F S50000x32 .f32 := Host.dotGeneral dot_S50000x64_S64x32_S50000x32_1_0_0_1_n_n none X W
/-- The three convolutions. -/
def net (z : FVec F S50000x17 .f32) (ei : IVec S2x800000 32) (W1 : FVec F S17x64 .f32) (b1 : FVec F S64 .f32) (W2 : FVec F S64x64 .f32) (b2 : FVec F S64 .f32)
    (W3 : FVec F S64x32 .f32) (b3 : FVec F S32 .f32) : FVec F S50000x32 .f32 :=
  layer32 (dinvCol (dstOf ei)) (srcOf ei) (dstOf ei)
    (proj3 (relu (layer64 (dinvCol (dstOf ei)) (srcOf ei) (dstOf ei)
      (proj2 (relu (layer64 (dinvCol (dstOf ei)) (srcOf ei) (dstOf ei) (enc z W1) b1)) W2) b2)) W3) b3
/-- The feature table: a node's network output and its point's coordinates but the first. -/
def feat (g : FVec F S50000x32 .f32) (v : FVec F S50000x16 .f32) : FVec F S50000x48 .f32 :=
  concatenate S50000x48 1 [⟨S50000x32, g⟩, ⟨S50000x16, v⟩] concatenates_S50000x32_S50000x16_S50000x48_d1
/-- The feature rows the words name. -/
def pick (T : FVec F S50000x48 .f32) (w : IVec S800000 32) : FVec F S800000x48 .f32 :=
  Host.gather gather_S50000x48_S800000x1_S800000x48_1_0_n_n_0_1_148 T (wrapCol w)
/-- Two square weight matrices side by side. -/
def wcat (a b : FVec F S64x64 .f32) : FVec F S64x128 .f32 := concatenate S64x128 1 [⟨S64x64, a⟩, ⟨S64x64, b⟩] concatenates_S64x64_S64x64_S64x128_d1
/-- Two vectors side by side. -/
def vcat (a b : FVec F S64 .f32) : FVec F S128 .f32 := concatenate S128 0 [⟨S64, a⟩, ⟨S64, b⟩] concatenates_S64_S64_S128_d0
/-- A vector as one row. -/
def asRow (v : FVec F S128 .f32) : FVec F S1x128 .f32 := broadcastInDim S1x128 ![1] bcast_S128_S1x128_1 v
/-- A one-column matrix as a vector. -/
def flat (a : FVec F S64x1 .f32) : FVec F S64 .f32 := shapeCast S64 a shapeCasts_S64x1_S64
/-- A row of zeros. -/
def zrow : FVec F S1x128 .f32 := broadcastInDim S1x128 ![] bcast_S_S1x128 (constant S_ .f32 0x00000000#32)
/-- One word as a vector. -/
def word1 (w : BitVec 32) : IVec S1 32 := broadcastInDim S1 ![] bcast_S_S1 (constantI S_ 32 w)
/-- A row with one element replaced, at the place the two words name. -/
def place (x : FVec F S1x128 .f32) (a b : IVec S1 32) (u : FVec F S_ .f32) : FVec F S1x128 .f32 :=
  Host.scatter scatter_S1x128_S2_S__n_01_01_0 (fun _ b => b) x (concatenate S2 0 [⟨S1, a⟩, ⟨S1, b⟩] concatenates_S1_S1_S2_d0) u
/-- A one-element vector as a scalar. -/
def scal (u : FVec F S1 .f32) : FVec F S_ .f32 := shapeCast S_ u shapeCasts_S1_S_
/-- The row whose first two elements are the two second biases. -/
def tail (u v : FVec F S1 .f32) : FVec F S1x128 .f32 := place (place zrow (word1 0#32) (word1 0#32) (scal u)) (word1 0#32) (word1 1#32) (scal v)

/-! ## The stages -/

/-- Stage 0: the edge list split, the degrees and the first coordinate. -/
abbrev st0 : List (HloOp τ sig (Elt F)) := hostOps0
/-- The buffers stage 0 writes. -/
abbrev st0W : List (Ref sig .tc) := [main_v0, main_v1, main_v2, main_v3, main_cst, main_v4, main_cst_0, main_v5, main_v6, main_v7, main_cst_1, main_v8, main_v9, main_v10, main_v11, main_v12, main_cst_2, main_v13, main_v14, main_cst_3, main_v15, main_v16]
/-- A buffer stage 0 does not write keeps its contents through it. -/
theorem st0_keep (V : Valuation τ sig (Elt F)) (r : Ref sig .tc) (h : r ∉ st0W) :
    after st0 V (Proc.devRef .tc r) = V (Proc.devRef .tc r) :=
  after_of_writes_sub st0 V (W := st0W) (by
    simp only [st0, hostOps0, List.take_succ_cons, List.take_zero, List.drop_succ_cons, List.drop_zero, List.Forall]
    repeat' apply And.intro
    all_goals
      simp only [TRef.unary, TRef.nullary, TRef.binary, nullary_writes, unary_writes, binary_writes, ternary_writes, reshape_writes,
        Finset.singleton_subset_iff, List.mem_toFinset]
      exact List.mem_map_of_mem (by decide)) h

/-- Stage 1: the inverse hyperbolic cosine. -/
abbrev st1 : List (HloOp τ sig (Elt F)) := hostOps0_1
/-- The buffers stage 1 writes. -/
abbrev st1W : List (Ref sig .tc) := [main_v17]
/-- A buffer stage 1 does not write keeps its contents through it. -/
theorem st1_keep (V : Valuation τ sig (Elt F)) (r : Ref sig .tc) (h : r ∉ st1W) :
    after st1 V (Proc.devRef .tc r) = V (Proc.devRef .tc r) :=
  after_of_writes_sub st1 V (W := st1W) (by
    simp only [st1, hostOps0_1, List.take_succ_cons, List.take_zero, List.drop_succ_cons, List.drop_zero, List.Forall]
    repeat' apply And.intro
    all_goals
      simp only [TRef.unary, TRef.nullary, TRef.binary, nullary_writes, unary_writes, binary_writes, ternary_writes, reshape_writes,
        Finset.singleton_subset_iff, List.mem_toFinset]
      exact List.mem_map_of_mem (by decide)) h

/-- Stage 2: the pieces of the encoded point. -/
abbrev st2 : List (HloOp τ sig (Elt F)) := hostOps0_2.take 11
/-- The buffers stage 2 writes. -/
abbrev st2W : List (Ref sig .tc) := [main_v18, main_cst_4, main_v19, main_v20, main_v21, main_v22, main_cst_5, main_v23, main_v24, main_v25, main_v26]
/-- A buffer stage 2 does not write keeps its contents through it. -/
theorem st2_keep (V : Valuation τ sig (Elt F)) (r : Ref sig .tc) (h : r ∉ st2W) :
    after st2 V (Proc.devRef .tc r) = V (Proc.devRef .tc r) :=
  after_of_writes_sub st2 V (W := st2W) (by
    simp only [st2, hostOps0_2, List.take_succ_cons, List.take_zero, List.drop_succ_cons, List.drop_zero, List.Forall]
    repeat' apply And.intro
    all_goals
      simp only [TRef.unary, TRef.nullary, TRef.binary, nullary_writes, unary_writes, binary_writes, ternary_writes, reshape_writes,
        Finset.singleton_subset_iff, List.mem_toFinset]
      exact List.mem_map_of_mem (by decide)) h

/-- Stage 3: the encoded point and the first projection. -/
abbrev st3 : List (HloOp τ sig (Elt F)) := (hostOps0_2.drop 11).take 4
/-- The buffers stage 3 writes. -/
abbrev st3W : List (Ref sig .tc) := [main_v27, main_v28, main_v29, main_v30]
/-- A buffer stage 3 does not write keeps its contents through it. -/
theorem st3_keep (V : Valuation τ sig (Elt F)) (r : Ref sig .tc) (h : r ∉ st3W) :
    after st3 V (Proc.devRef .tc r) = V (Proc.devRef .tc r) :=
  after_of_writes_sub st3 V (W := st3W) (by
    simp only [st3, hostOps0_2, List.take_succ_cons, List.take_zero, List.drop_succ_cons, List.drop_zero, List.Forall]
    repeat' apply And.intro
    all_goals
      simp only [TRef.unary, TRef.nullary, TRef.binary, nullary_writes, unary_writes, binary_writes, ternary_writes, reshape_writes,
        Finset.singleton_subset_iff, List.mem_toFinset]
      exact List.mem_map_of_mem (by decide)) h

/-- Stage 4: the first layer. -/
abbrev st4 : List (HloOp τ sig (Elt F)) := (hostOps0_2.drop 15)
/-- The buffers stage 4 writes. -/
abbrev st4W : List (Ref sig .tc) := [main_v31, main_v32, main_c, main_v33, main_v34, main_c_6, main_v35, main_v36, main_v37, main_v38, main_v39, main_cst_7, main_v40, main_v41, main_v42, main_v43, main_v44, main_v45, main_v46, main_v47, main_v48]
/-- A buffer stage 4 does not write keeps its contents through it. -/
theorem st4_keep (V : Valuation τ sig (Elt F)) (r : Ref sig .tc) (h : r ∉ st4W) :
    after st4 V (Proc.devRef .tc r) = V (Proc.devRef .tc r) :=
  after_of_writes_sub st4 V (W := st4W) (by
    simp only [st4, hostOps0_2, List.take_succ_cons, List.take_zero, List.drop_succ_cons, List.drop_zero, List.Forall]
    repeat' apply And.intro
    all_goals
      simp only [TRef.unary, TRef.nullary, TRef.binary, nullary_writes, unary_writes, binary_writes, ternary_writes, reshape_writes,
        Finset.singleton_subset_iff, List.mem_toFinset]
      exact List.mem_map_of_mem (by decide)) h

/-- Stage 5: the first rectifier. -/
abbrev st5 : List (HloOp τ sig (Elt F)) := hostOps0_3
/-- The buffers stage 5 writes. -/
abbrev st5W : List (Ref sig .tc) := [main_call1_cst, main_call1_v0, main_v49]
/-- A buffer stage 5 does not write keeps its contents through it. -/
theorem st5_keep (V : Valuation τ sig (Elt F)) (r : Ref sig .tc) (h : r ∉ st5W) :
    after st5 V (Proc.devRef .tc r) = V (Proc.devRef .tc r) :=
  after_of_writes_sub st5 V (W := st5W) (by
    simp only [st5, hostOps0_3, List.take_succ_cons, List.take_zero, List.drop_succ_cons, List.drop_zero, List.Forall]
    repeat' apply And.intro
    all_goals
      simp only [TRef.unary, TRef.nullary, TRef.binary, nullary_writes, unary_writes, binary_writes, ternary_writes, reshape_writes,
        Finset.singleton_subset_iff, List.mem_toFinset]
      exact List.mem_map_of_mem (by decide)) h

/-- Stage 6: the second layer. -/
abbrev st6 : List (HloOp τ sig (Elt F)) := hostOps0_4
/-- The buffers stage 6 writes. -/
abbrev st6W : List (Ref sig .tc) := [main_v50, main_v51, main_v52, main_c_8, main_v53, main_v54, main_c_9, main_v55, main_v56, main_v57, main_v58, main_v59, main_cst_10, main_v60, main_v61, main_v62, main_v63, main_v64, main_v65, main_v66, main_v67, main_v68]
/-- A buffer stage 6 does not write keeps its contents through it. -/
theorem st6_keep (V : Valuation τ sig (Elt F)) (r : Ref sig .tc) (h : r ∉ st6W) :
    after st6 V (Proc.devRef .tc r) = V (Proc.devRef .tc r) :=
  after_of_writes_sub st6 V (W := st6W) (by
    simp only [st6, hostOps0_4, List.take_succ_cons, List.take_zero, List.drop_succ_cons, List.drop_zero, List.Forall]
    repeat' apply And.intro
    all_goals
      simp only [TRef.unary, TRef.nullary, TRef.binary, nullary_writes, unary_writes, binary_writes, ternary_writes, reshape_writes,
        Finset.singleton_subset_iff, List.mem_toFinset]
      exact List.mem_map_of_mem (by decide)) h

/-- Stage 7: the second rectifier. -/
abbrev st7 : List (HloOp τ sig (Elt F)) := hostOps0_5
/-- The buffers stage 7 writes. -/
abbrev st7W : List (Ref sig .tc) := [main_call2_cst, main_call2_v0, main_v69]
/-- A buffer stage 7 does not write keeps its contents through it. -/
theorem st7_keep (V : Valuation τ sig (Elt F)) (r : Ref sig .tc) (h : r ∉ st7W) :
    after st7 V (Proc.devRef .tc r) = V (Proc.devRef .tc r) :=
  after_of_writes_sub st7 V (W := st7W) (by
    simp only [st7, hostOps0_5, List.take_succ_cons, List.take_zero, List.drop_succ_cons, List.drop_zero, List.Forall]
    repeat' apply And.intro
    all_goals
      simp only [TRef.unary, TRef.nullary, TRef.binary, nullary_writes, unary_writes, binary_writes, ternary_writes, reshape_writes,
        Finset.singleton_subset_iff, List.mem_toFinset]
      exact List.mem_map_of_mem (by decide)) h

/-- Stage 8: the third layer. -/
abbrev st8 : List (HloOp τ sig (Elt F)) := hostOps0_6.take 23
/-- The buffers stage 8 writes. -/
abbrev st8W : List (Ref sig .tc) := [main_v70, main_v71, main_v72, main_c_11, main_v73, main_v74, main_c_12, main_v75, main_v76, main_v77, main_v78, main_v79, main_cst_13, main_v80, main_v81, main_v82, main_v83, main_v84, main_v85, main_v86, main_v87, main_v88, main_v89]
/-- A buffer stage 8 does not write keeps its contents through it. -/
theorem st8_keep (V : Valuation τ sig (Elt F)) (r : Ref sig .tc) (h : r ∉ st8W) :
    after st8 V (Proc.devRef .tc r) = V (Proc.devRef .tc r) :=
  after_of_writes_sub st8 V (W := st8W) (by
    simp only [st8, hostOps0_6, List.take_succ_cons, List.take_zero, List.drop_succ_cons, List.drop_zero, List.Forall]
    repeat' apply And.intro
    all_goals
      simp only [TRef.unary, TRef.nullary, TRef.binary, nullary_writes, unary_writes, binary_writes, ternary_writes, reshape_writes,
        Finset.singleton_subset_iff, List.mem_toFinset]
      exact List.mem_map_of_mem (by decide)) h

/-- Stage 9: the feature table and its two gathers. -/
abbrev st9 : List (HloOp τ sig (Elt F)) := (hostOps0_6.drop 23).take 19
/-- The buffers stage 9 writes. -/
abbrev st9W : List (Ref sig .tc) := [main_v90, main_c_14, main_v91, main_v92, main_c_15, main_v93, main_v94, main_v95, main_v96, main_v97, main_c_16, main_v98, main_v99, main_c_17, main_v100, main_v101, main_v102, main_v103, main_v104]
/-- A buffer stage 9 does not write keeps its contents through it. -/
theorem st9_keep (V : Valuation τ sig (Elt F)) (r : Ref sig .tc) (h : r ∉ st9W) :
    after st9 V (Proc.devRef .tc r) = V (Proc.devRef .tc r) :=
  after_of_writes_sub st9 V (W := st9W) (by
    simp only [st9, hostOps0_6, List.take_succ_cons, List.take_zero, List.drop_succ_cons, List.drop_zero, List.Forall]
    repeat' apply And.intro
    all_goals
      simp only [TRef.unary, TRef.nullary, TRef.binary, nullary_writes, unary_writes, binary_writes, ternary_writes, reshape_writes,
        Finset.singleton_subset_iff, List.mem_toFinset]
      exact List.mem_map_of_mem (by decide)) h

/-- Stage 10: the two first weight matrices side by side. -/
abbrev st10 : List (HloOp τ sig (Elt F)) := (hostOps0_6.drop 42).take 1
/-- The buffers stage 10 writes. -/
abbrev st10W : List (Ref sig .tc) := [main_v105]
/-- A buffer stage 10 does not write keeps its contents through it. -/
theorem st10_keep (V : Valuation τ sig (Elt F)) (r : Ref sig .tc) (h : r ∉ st10W) :
    after st10 V (Proc.devRef .tc r) = V (Proc.devRef .tc r) :=
  after_of_writes_sub st10 V (W := st10W) (by
    simp only [st10, hostOps0_6, List.take_succ_cons, List.take_zero, List.drop_succ_cons, List.drop_zero, List.Forall]
    repeat' apply And.intro
    all_goals
      simp only [TRef.unary, TRef.nullary, TRef.binary, nullary_writes, unary_writes, binary_writes, ternary_writes, reshape_writes,
        Finset.singleton_subset_iff, List.mem_toFinset]
      exact List.mem_map_of_mem (by decide)) h

/-- Stage 11: the two first biases side by side. -/
abbrev st11 : List (HloOp τ sig (Elt F)) := (hostOps0_6.drop 43).take 4
/-- The buffers stage 11 writes. -/
abbrev st11W : List (Ref sig .tc) := [main_v106, main_v107, main_v108, main_v109]
/-- A buffer stage 11 does not write keeps its contents through it. -/
theorem st11_keep (V : Valuation τ sig (Elt F)) (r : Ref sig .tc) (h : r ∉ st11W) :
    after st11 V (Proc.devRef .tc r) = V (Proc.devRef .tc r) :=
  after_of_writes_sub st11 V (W := st11W) (by
    simp only [st11, hostOps0_6, List.take_succ_cons, List.take_zero, List.drop_succ_cons, List.drop_zero, List.Forall]
    repeat' apply And.intro
    all_goals
      simp only [TRef.unary, TRef.nullary, TRef.binary, nullary_writes, unary_writes, binary_writes, ternary_writes, reshape_writes,
        Finset.singleton_subset_iff, List.mem_toFinset]
      exact List.mem_map_of_mem (by decide)) h

/-- Stage 12: the two second weights side by side. -/
abbrev st12 : List (HloOp τ sig (Elt F)) := (hostOps0_6.drop 47).take 9
/-- The buffers stage 12 writes. -/
abbrev st12W : List (Ref sig .tc) := [main_v110, main_v111, main_cst_18, main_v112, main_v113, main_c_19, main_v114, main_c_20, main_v115]
/-- A buffer stage 12 does not write keeps its contents through it. -/
theorem st12_keep (V : Valuation τ sig (Elt F)) (r : Ref sig .tc) (h : r ∉ st12W) :
    after st12 V (Proc.devRef .tc r) = V (Proc.devRef .tc r) :=
  after_of_writes_sub st12 V (W := st12W) (by
    simp only [st12, hostOps0_6, List.take_succ_cons, List.take_zero, List.drop_succ_cons, List.drop_zero, List.Forall]
    repeat' apply And.intro
    all_goals
      simp only [TRef.unary, TRef.nullary, TRef.binary, nullary_writes, unary_writes, binary_writes, ternary_writes, reshape_writes,
        Finset.singleton_subset_iff, List.mem_toFinset]
      exact List.mem_map_of_mem (by decide)) h

/-- Stage 13: the first second bias placed. -/
abbrev st13 : List (HloOp τ sig (Elt F)) := (hostOps0_6.drop 56).take 7
/-- The buffers stage 13 writes. -/
abbrev st13W : List (Ref sig .tc) := [main_v116, main_v117, main_v118, main_c_21, main_v119, main_c_22, main_v120]
/-- A buffer stage 13 does not write keeps its contents through it. -/
theorem st13_keep (V : Valuation τ sig (Elt F)) (r : Ref sig .tc) (h : r ∉ st13W) :
    after st13 V (Proc.devRef .tc r) = V (Proc.devRef .tc r) :=
  after_of_writes_sub st13 V (W := st13W) (by
    simp only [st13, hostOps0_6, List.take_succ_cons, List.take_zero, List.drop_succ_cons, List.drop_zero, List.Forall]
    repeat' apply And.intro
    all_goals
      simp only [TRef.unary, TRef.nullary, TRef.binary, nullary_writes, unary_writes, binary_writes, ternary_writes, reshape_writes,
        Finset.singleton_subset_iff, List.mem_toFinset]
      exact List.mem_map_of_mem (by decide)) h

/-- Stage 14: the second second bias placed. -/
abbrev st14 : List (HloOp τ sig (Elt F)) := (hostOps0_6.drop 63)
/-- The buffers stage 14 writes. -/
abbrev st14W : List (Ref sig .tc) := [main_v121, main_v122]
/-- A buffer stage 14 does not write keeps its contents through it. -/
theorem st14_keep (V : Valuation τ sig (Elt F)) (r : Ref sig .tc) (h : r ∉ st14W) :
    after st14 V (Proc.devRef .tc r) = V (Proc.devRef .tc r) :=
  after_of_writes_sub st14 V (W := st14W) (by
    simp only [st14, hostOps0_6, List.take_succ_cons, List.take_zero, List.drop_succ_cons, List.drop_zero, List.Forall]
    repeat' apply And.intro
    all_goals
      simp only [TRef.unary, TRef.nullary, TRef.binary, nullary_writes, unary_writes, binary_writes, ternary_writes, reshape_writes,
        Finset.singleton_subset_iff, List.mem_toFinset]
      exact List.mem_map_of_mem (by decide)) h

/-! ## What each stage leaves -/

set_option maxHeartbeats 4000000 in
/-- What stage 0 leaves in `main_v1`. -/
theorem st0_main_v1 (V : Valuation τ sig (Elt F)) : after st0 V (Proc.devRef .tc main_v1) = srcOf (V (Proc.devRef .tc main_arg1)) := by
  simp only [st0, hostOps0, List.take_succ_cons, List.take_zero, List.drop_succ_cons, List.drop_zero, TRef.unary, TRef.binary, TRef.nullary, TRef.toBuf, TRef.ofBuf, cast_eq]
  after_results_simp
  try rfl

set_option maxHeartbeats 4000000 in
/-- What stage 0 leaves in `main_v3`. -/
theorem st0_main_v3 (V : Valuation τ sig (Elt F)) : after st0 V (Proc.devRef .tc main_v3) = dstOf (V (Proc.devRef .tc main_arg1)) := by
  simp only [st0, hostOps0, List.take_succ_cons, List.take_zero, List.drop_succ_cons, List.drop_zero, TRef.unary, TRef.binary, TRef.nullary, TRef.toBuf, TRef.ofBuf, cast_eq]
  after_results_simp
  try rfl

set_option maxHeartbeats 4000000 in
/-- What stage 0 leaves in `main_v11`. -/
theorem st0_main_v11 (V : Valuation τ sig (Elt F)) : after st0 V (Proc.devRef .tc main_v11) = dinvCol (dstOf (V (Proc.devRef .tc main_arg1))) := by
  simp only [st0, hostOps0, List.take_succ_cons, List.take_zero, List.drop_succ_cons, List.drop_zero, TRef.unary, TRef.binary, TRef.nullary, TRef.toBuf, TRef.ofBuf, cast_eq]
  after_results_simp
  try rfl

set_option maxHeartbeats 4000000 in
/-- What stage 0 leaves in `main_v12`. -/
theorem st0_main_v12 (V : Valuation τ sig (Elt F)) : after st0 V (Proc.devRef .tc main_v12) = lead (V (Proc.devRef .tc main_arg0)) := by
  simp only [st0, hostOps0, List.take_succ_cons, List.take_zero, List.drop_succ_cons, List.drop_zero, TRef.unary, TRef.binary, TRef.nullary, TRef.toBuf, TRef.ofBuf, cast_eq]
  after_results_simp
  try rfl

set_option maxHeartbeats 4000000 in
/-- What stage 0 leaves in `main_v16`. -/
theorem st0_main_v16 (V : Valuation τ sig (Elt F)) : after st0 V (Proc.devRef .tc main_v16) = alpha (V (Proc.devRef .tc main_arg0)) := by
  simp only [st0, hostOps0, List.take_succ_cons, List.take_zero, List.drop_succ_cons, List.drop_zero, TRef.unary, TRef.binary, TRef.nullary, TRef.toBuf, TRef.ofBuf, cast_eq]
  after_results_simp
  try rfl

set_option maxHeartbeats 4000000 in
/-- What stage 1 leaves in `main_v17`. -/
theorem st1_main_v17 (V : Valuation τ sig (Elt F)) : after st1 V (Proc.devRef .tc main_v17) = Host.acosh (V (Proc.devRef .tc main_v16)) := by
  simp only [st1, hostOps0_1, List.take_succ_cons, List.take_zero, List.drop_succ_cons, List.drop_zero, TRef.unary, TRef.binary, TRef.nullary, TRef.toBuf, TRef.ofBuf, cast_eq]
  after_results_simp
  try rfl

set_option maxHeartbeats 4000000 in
/-- What stage 2 leaves in `main_v22`. -/
theorem st2_main_v22 (V : Valuation τ sig (Elt F)) : after st2 V (Proc.devRef .tc main_v22) = encScale (V (Proc.devRef .tc main_v16)) (V (Proc.devRef .tc main_v17)) := by
  simp only [st2, hostOps0_2, List.take_succ_cons, List.take_zero, List.drop_succ_cons, List.drop_zero, TRef.unary, TRef.binary, TRef.nullary, TRef.toBuf, TRef.ofBuf, cast_eq]
  after_results_simp
  try rfl

set_option maxHeartbeats 4000000 in
/-- What stage 2 leaves in `main_v25`. -/
theorem st2_main_v25 (V : Valuation τ sig (Elt F)) : after st2 V (Proc.devRef .tc main_v25) = encLead (V (Proc.devRef .tc main_v12)) (V (Proc.devRef .tc main_v16)) := by
  simp only [st2, hostOps0_2, List.take_succ_cons, List.take_zero, List.drop_succ_cons, List.drop_zero, TRef.unary, TRef.binary, TRef.nullary, TRef.toBuf, TRef.ofBuf, cast_eq]
  after_results_simp
  try rfl

set_option maxHeartbeats 4000000 in
/-- What stage 2 leaves in `main_v26`. -/
theorem st2_main_v26 (V : Valuation τ sig (Elt F)) : after st2 V (Proc.devRef .tc main_v26) = rest (V (Proc.devRef .tc main_arg0)) := by
  simp only [st2, hostOps0_2, List.take_succ_cons, List.take_zero, List.drop_succ_cons, List.drop_zero, TRef.unary, TRef.binary, TRef.nullary, TRef.toBuf, TRef.ofBuf, cast_eq]
  after_results_simp
  try rfl

set_option maxHeartbeats 4000000 in
/-- What stage 3 leaves in `main_v30`. -/
theorem st3_main_v30 (V : Valuation τ sig (Elt F)) : after st3 V (Proc.devRef .tc main_v30) = encDot (V (Proc.devRef .tc main_v22)) (V (Proc.devRef .tc main_v25)) (V (Proc.devRef .tc main_v26)) (V (Proc.devRef .tc main_arg2)) := by
  simp only [st3, hostOps0_2, List.take_succ_cons, List.take_zero, List.drop_succ_cons, List.drop_zero, TRef.unary, TRef.binary, TRef.nullary, TRef.toBuf, TRef.ofBuf, cast_eq]
  after_results_simp
  try rfl

set_option maxHeartbeats 4000000 in
/-- What stage 4 leaves in `main_v48`. -/
theorem st4_main_v48 (V : Valuation τ sig (Elt F)) : after st4 V (Proc.devRef .tc main_v48) = layer64 (V (Proc.devRef .tc main_v11)) (V (Proc.devRef .tc main_v1)) (V (Proc.devRef .tc main_v3)) (V (Proc.devRef .tc main_v30)) (V (Proc.devRef .tc main_arg3)) := by
  simp only [st4, hostOps0_2, List.take_succ_cons, List.take_zero, List.drop_succ_cons, List.drop_zero, TRef.unary, TRef.binary, TRef.nullary, TRef.toBuf, TRef.ofBuf, cast_eq]
  after_results_simp
  try rfl

set_option maxHeartbeats 4000000 in
/-- What stage 5 leaves in `main_v49`. -/
theorem st5_main_v49 (V : Valuation τ sig (Elt F)) : after st5 V (Proc.devRef .tc main_v49) = relu (V (Proc.devRef .tc main_v48)) := by
  simp only [st5, hostOps0_3, List.take_succ_cons, List.take_zero, List.drop_succ_cons, List.drop_zero, TRef.unary, TRef.binary, TRef.nullary, TRef.toBuf, TRef.ofBuf, cast_eq]
  after_results_simp
  try rfl

set_option maxHeartbeats 4000000 in
/-- What stage 6 leaves in `main_v68`. -/
theorem st6_main_v68 (V : Valuation τ sig (Elt F)) : after st6 V (Proc.devRef .tc main_v68) = layer64 (V (Proc.devRef .tc main_v11)) (V (Proc.devRef .tc main_v1)) (V (Proc.devRef .tc main_v3)) (proj2 (V (Proc.devRef .tc main_v49)) (V (Proc.devRef .tc main_arg4))) (V (Proc.devRef .tc main_arg5)) := by
  simp only [st6, hostOps0_4, List.take_succ_cons, List.take_zero, List.drop_succ_cons, List.drop_zero, TRef.unary, TRef.binary, TRef.nullary, TRef.toBuf, TRef.ofBuf, cast_eq]
  after_results_simp
  try rfl

set_option maxHeartbeats 4000000 in
/-- What stage 7 leaves in `main_v69`. -/
theorem st7_main_v69 (V : Valuation τ sig (Elt F)) : after st7 V (Proc.devRef .tc main_v69) = relu (V (Proc.devRef .tc main_v68)) := by
  simp only [st7, hostOps0_5, List.take_succ_cons, List.take_zero, List.drop_succ_cons, List.drop_zero, TRef.unary, TRef.binary, TRef.nullary, TRef.toBuf, TRef.ofBuf, cast_eq]
  after_results_simp
  try rfl

set_option maxHeartbeats 4000000 in
/-- What stage 8 leaves in `main_v88`. -/
theorem st8_main_v88 (V : Valuation τ sig (Elt F)) : after st8 V (Proc.devRef .tc main_v88) = layer32 (V (Proc.devRef .tc main_v11)) (V (Proc.devRef .tc main_v1)) (V (Proc.devRef .tc main_v3)) (proj3 (V (Proc.devRef .tc main_v69)) (V (Proc.devRef .tc main_arg6))) (V (Proc.devRef .tc main_arg7)) := by
  simp only [st8, hostOps0_6, List.take_succ_cons, List.take_zero, List.drop_succ_cons, List.drop_zero, TRef.unary, TRef.binary, TRef.nullary, TRef.toBuf, TRef.ofBuf, cast_eq]
  after_results_simp
  try rfl

set_option maxHeartbeats 4000000 in
/-- What stage 8 leaves in `main_v89`. -/
theorem st8_main_v89 (V : Valuation τ sig (Elt F)) : after st8 V (Proc.devRef .tc main_v89) = rest (V (Proc.devRef .tc main_arg0)) := by
  simp only [st8, hostOps0_6, List.take_succ_cons, List.take_zero, List.drop_succ_cons, List.drop_zero, TRef.unary, TRef.binary, TRef.nullary, TRef.toBuf, TRef.ofBuf, cast_eq]
  after_results_simp
  try rfl

set_option maxHeartbeats 4000000 in
/-- What stage 9 leaves in `main_v97`. -/
theorem st9_main_v97 (V : Valuation τ sig (Elt F)) : after st9 V (Proc.devRef .tc main_v97) = pick (feat (V (Proc.devRef .tc main_v88)) (V (Proc.devRef .tc main_v89))) (V (Proc.devRef .tc main_v1)) := by
  simp only [st9, hostOps0_6, List.take_succ_cons, List.take_zero, List.drop_succ_cons, List.drop_zero, TRef.unary, TRef.binary, TRef.nullary, TRef.toBuf, TRef.ofBuf, cast_eq]
  after_results_simp
  try rfl

set_option maxHeartbeats 4000000 in
/-- What stage 9 leaves in `main_v104`. -/
theorem st9_main_v104 (V : Valuation τ sig (Elt F)) : after st9 V (Proc.devRef .tc main_v104) = pick (feat (V (Proc.devRef .tc main_v88)) (V (Proc.devRef .tc main_v89))) (V (Proc.devRef .tc main_v3)) := by
  simp only [st9, hostOps0_6, List.take_succ_cons, List.take_zero, List.drop_succ_cons, List.drop_zero, TRef.unary, TRef.binary, TRef.nullary, TRef.toBuf, TRef.ofBuf, cast_eq]
  after_results_simp
  try rfl

set_option maxHeartbeats 4000000 in
/-- What stage 10 leaves in `main_v105`. -/
theorem st10_main_v105 (V : Valuation τ sig (Elt F)) : after st10 V (Proc.devRef .tc main_v105) = wcat (V (Proc.devRef .tc main_arg8)) (V (Proc.devRef .tc main_arg12)) := by
  simp only [st10, hostOps0_6, List.take_succ_cons, List.take_zero, List.drop_succ_cons, List.drop_zero, TRef.unary, TRef.binary, TRef.nullary, TRef.toBuf, TRef.ofBuf, cast_eq]
  after_results_simp
  try rfl

set_option maxHeartbeats 4000000 in
/-- What stage 11 leaves in `main_v107`. -/
theorem st11_main_v107 (V : Valuation τ sig (Elt F)) : after st11 V (Proc.devRef .tc main_v107) = asRow (vcat (V (Proc.devRef .tc main_arg9)) (V (Proc.devRef .tc main_arg13))) := by
  simp only [st11, hostOps0_6, List.take_succ_cons, List.take_zero, List.drop_succ_cons, List.drop_zero, TRef.unary, TRef.binary, TRef.nullary, TRef.toBuf, TRef.ofBuf, cast_eq]
  after_results_simp
  try rfl

set_option maxHeartbeats 4000000 in
/-- What stage 11 leaves in `main_v108`. -/
theorem st11_main_v108 (V : Valuation τ sig (Elt F)) : after st11 V (Proc.devRef .tc main_v108) = flat (V (Proc.devRef .tc main_arg10)) := by
  simp only [st11, hostOps0_6, List.take_succ_cons, List.take_zero, List.drop_succ_cons, List.drop_zero, TRef.unary, TRef.binary, TRef.nullary, TRef.toBuf, TRef.ofBuf, cast_eq]
  after_results_simp
  try rfl

set_option maxHeartbeats 4000000 in
/-- What stage 11 leaves in `main_v109`. -/
theorem st11_main_v109 (V : Valuation τ sig (Elt F)) : after st11 V (Proc.devRef .tc main_v109) = flat (V (Proc.devRef .tc main_arg14)) := by
  simp only [st11, hostOps0_6, List.take_succ_cons, List.take_zero, List.drop_succ_cons, List.drop_zero, TRef.unary, TRef.binary, TRef.nullary, TRef.toBuf, TRef.ofBuf, cast_eq]
  after_results_simp
  try rfl

set_option maxHeartbeats 4000000 in
/-- What stage 12 leaves in `main_v111`. -/
theorem st12_main_v111 (V : Valuation τ sig (Elt F)) : after st12 V (Proc.devRef .tc main_v111) = asRow (vcat (V (Proc.devRef .tc main_v108)) (V (Proc.devRef .tc main_v109))) := by
  simp only [st12, hostOps0_6, List.take_succ_cons, List.take_zero, List.drop_succ_cons, List.drop_zero, TRef.unary, TRef.binary, TRef.nullary, TRef.toBuf, TRef.ofBuf, cast_eq]
  after_results_simp
  try rfl

set_option maxHeartbeats 4000000 in
/-- What stage 12 leaves in `main_v112`. -/
theorem st12_main_v112 (V : Valuation τ sig (Elt F)) : after st12 V (Proc.devRef .tc main_v112) = zrow := by
  simp only [st12, hostOps0_6, List.take_succ_cons, List.take_zero, List.drop_succ_cons, List.drop_zero, TRef.unary, TRef.binary, TRef.nullary, TRef.toBuf, TRef.ofBuf, cast_eq]
  after_results_simp
  try rfl

set_option maxHeartbeats 4000000 in
/-- What stage 12 leaves in `main_v113`. -/
theorem st12_main_v113 (V : Valuation τ sig (Elt F)) : after st12 V (Proc.devRef .tc main_v113) = scal (V (Proc.devRef .tc main_arg11)) := by
  simp only [st12, hostOps0_6, List.take_succ_cons, List.take_zero, List.drop_succ_cons, List.drop_zero, TRef.unary, TRef.binary, TRef.nullary, TRef.toBuf, TRef.ofBuf, cast_eq]
  after_results_simp
  try rfl

set_option maxHeartbeats 4000000 in
/-- What stage 12 leaves in `main_v114`. -/
theorem st12_main_v114 (V : Valuation τ sig (Elt F)) : after st12 V (Proc.devRef .tc main_v114) = word1 0#32 := by
  simp only [st12, hostOps0_6, List.take_succ_cons, List.take_zero, List.drop_succ_cons, List.drop_zero, TRef.unary, TRef.binary, TRef.nullary, TRef.toBuf, TRef.ofBuf, cast_eq]
  after_results_simp
  try rfl

set_option maxHeartbeats 4000000 in
/-- What stage 12 leaves in `main_v115`. -/
theorem st12_main_v115 (V : Valuation τ sig (Elt F)) : after st12 V (Proc.devRef .tc main_v115) = word1 0#32 := by
  simp only [st12, hostOps0_6, List.take_succ_cons, List.take_zero, List.drop_succ_cons, List.drop_zero, TRef.unary, TRef.binary, TRef.nullary, TRef.toBuf, TRef.ofBuf, cast_eq]
  after_results_simp
  try rfl

set_option maxHeartbeats 4000000 in
/-- What stage 13 leaves in `main_v117`. -/
theorem st13_main_v117 (V : Valuation τ sig (Elt F)) : after st13 V (Proc.devRef .tc main_v117) = place (V (Proc.devRef .tc main_v112)) (V (Proc.devRef .tc main_v114)) (V (Proc.devRef .tc main_v115)) (V (Proc.devRef .tc main_v113)) := by
  simp only [st13, hostOps0_6, List.take_succ_cons, List.take_zero, List.drop_succ_cons, List.drop_zero, TRef.unary, TRef.binary, TRef.nullary, TRef.toBuf, TRef.ofBuf, cast_eq]
  after_results_simp
  try rfl

set_option maxHeartbeats 4000000 in
/-- What stage 13 leaves in `main_v118`. -/
theorem st13_main_v118 (V : Valuation τ sig (Elt F)) : after st13 V (Proc.devRef .tc main_v118) = scal (V (Proc.devRef .tc main_arg15)) := by
  simp only [st13, hostOps0_6, List.take_succ_cons, List.take_zero, List.drop_succ_cons, List.drop_zero, TRef.unary, TRef.binary, TRef.nullary, TRef.toBuf, TRef.ofBuf, cast_eq]
  after_results_simp
  try rfl

set_option maxHeartbeats 4000000 in
/-- What stage 13 leaves in `main_v119`. -/
theorem st13_main_v119 (V : Valuation τ sig (Elt F)) : after st13 V (Proc.devRef .tc main_v119) = word1 0#32 := by
  simp only [st13, hostOps0_6, List.take_succ_cons, List.take_zero, List.drop_succ_cons, List.drop_zero, TRef.unary, TRef.binary, TRef.nullary, TRef.toBuf, TRef.ofBuf, cast_eq]
  after_results_simp
  try rfl

set_option maxHeartbeats 4000000 in
/-- What stage 13 leaves in `main_v120`. -/
theorem st13_main_v120 (V : Valuation τ sig (Elt F)) : after st13 V (Proc.devRef .tc main_v120) = word1 1#32 := by
  simp only [st13, hostOps0_6, List.take_succ_cons, List.take_zero, List.drop_succ_cons, List.drop_zero, TRef.unary, TRef.binary, TRef.nullary, TRef.toBuf, TRef.ofBuf, cast_eq]
  after_results_simp
  try rfl

set_option maxHeartbeats 4000000 in
/-- What stage 14 leaves in `main_v122`. -/
theorem st14_main_v122 (V : Valuation τ sig (Elt F)) : after st14 V (Proc.devRef .tc main_v122) = place (V (Proc.devRef .tc main_v117)) (V (Proc.devRef .tc main_v119)) (V (Proc.devRef .tc main_v120)) (V (Proc.devRef .tc main_v118)) := by
  simp only [st14, hostOps0_6, List.take_succ_cons, List.take_zero, List.drop_succ_cons, List.drop_zero, TRef.unary, TRef.binary, TRef.nullary, TRef.toBuf, TRef.ofBuf, cast_eq]
  after_results_simp
  try rfl

end Cert.KernelIdeal.Net

end
-- ==== Proof.KernelArrays.lean ====
/- The six arrays the kernel reads, as functions of the arguments: the stages chained. -/
module

public import proofs.«01_k».proof.Proof.KernelHost

@[expose] public section

set_option maxRecDepth 16384

noncomputable section

namespace Cert.KernelIdeal.Net

open Cert.KernelIdeal Cert.KernelIdeal.Gen Idealize.ShloMosaic Idealize.ShloMosaic.TcCoe Idealize.ShloMosaic.StableHlo

variable {F : FTy → Type} [FloatOps F]

/-! ## The contents after each stage -/

/-- The contents after stage 0. -/
def v0 (V0 : Valuation τ sig (Elt F)) : Valuation τ sig (Elt F) := after st0 V0
/-- The contents after stage 1. -/
def v1 (V0 : Valuation τ sig (Elt F)) : Valuation τ sig (Elt F) := after st1 (v0 V0)
/-- The contents after stage 2. -/
def v2 (V0 : Valuation τ sig (Elt F)) : Valuation τ sig (Elt F) := after st2 (v1 V0)
/-- The contents after stage 3. -/
def v3 (V0 : Valuation τ sig (Elt F)) : Valuation τ sig (Elt F) := after st3 (v2 V0)
/-- The contents after stage 4. -/
def v4 (V0 : Valuation τ sig (Elt F)) : Valuation τ sig (Elt F) := after st4 (v3 V0)
/-- The contents after stage 5. -/
def v5 (V0 : Valuation τ sig (Elt F)) : Valuation τ sig (Elt F) := after st5 (v4 V0)
/-- The contents after stage 6. -/
def v6 (V0 : Valuation τ sig (Elt F)) : Valuation τ sig (Elt F) := after st6 (v5 V0)
/-- The contents after stage 7. -/
def v7 (V0 : Valuation τ sig (Elt F)) : Valuation τ sig (Elt F) := after st7 (v6 V0)
/-- The contents after stage 8. -/
def v8 (V0 : Valuation τ sig (Elt F)) : Valuation τ sig (Elt F) := after st8 (v7 V0)
/-- The contents after stage 9. -/
def v9 (V0 : Valuation τ sig (Elt F)) : Valuation τ sig (Elt F) := after st9 (v8 V0)
/-- The contents after stage 10. -/
def v10 (V0 : Valuation τ sig (Elt F)) : Valuation τ sig (Elt F) := after st10 (v9 V0)
/-- The contents after stage 11. -/
def v11 (V0 : Valuation τ sig (Elt F)) : Valuation τ sig (Elt F) := after st11 (v10 V0)
/-- The contents after stage 12. -/
def v12 (V0 : Valuation τ sig (Elt F)) : Valuation τ sig (Elt F) := after st12 (v11 V0)
/-- The contents after stage 13. -/
def v13 (V0 : Valuation τ sig (Elt F)) : Valuation τ sig (Elt F) := after st13 (v12 V0)
/-- The contents after stage 14. -/
def v14 (V0 : Valuation τ sig (Elt F)) : Valuation τ sig (Elt F) := after st14 (v13 V0)

/-- `main_v1` after stage 0. -/
theorem val_main_v1 (V0 : Valuation τ sig (Elt F)) : v0 V0 (Proc.devRef .tc main_v1) = (srcOf (V0 (Proc.devRef .tc main_arg1))) := by
  refine (st0_main_v1 V0).trans ?_
  rfl

/-- `main_v3` after stage 0. -/
theorem val_main_v3 (V0 : Valuation τ sig (Elt F)) : v0 V0 (Proc.devRef .tc main_v3) = (dstOf (V0 (Proc.devRef .tc main_arg1))) := by
  refine (st0_main_v3 V0).trans ?_
  rfl

/-- `main_v11` after stage 0. -/
theorem val_main_v11 (V0 : Valuation τ sig (Elt F)) : v0 V0 (Proc.devRef .tc main_v11) = (dinvCol (dstOf (V0 (Proc.devRef .tc main_arg1)))) := by
  refine (st0_main_v11 V0).trans ?_
  rfl

/-- `main_v12` after stage 0. -/
theorem val_main_v12 (V0 : Valuation τ sig (Elt F)) : v0 V0 (Proc.devRef .tc main_v12) = (lead (V0 (Proc.devRef .tc main_arg0))) := by
  refine (st0_main_v12 V0).trans ?_
  rfl

/-- `main_v16` after stage 0. -/
theorem val_main_v16 (V0 : Valuation τ sig (Elt F)) : v0 V0 (Proc.devRef .tc main_v16) = (alpha (V0 (Proc.devRef .tc main_arg0))) := by
  refine (st0_main_v16 V0).trans ?_
  rfl

/-- `main_v17` after stage 1. -/
theorem val_main_v17 (V0 : Valuation τ sig (Elt F)) : v1 V0 (Proc.devRef .tc main_v17) = (Host.acosh (alpha (V0 (Proc.devRef .tc main_arg0)))) := by
  refine (st1_main_v17 (v0 V0)).trans ?_
  have h0 : (v0 V0) (Proc.devRef .tc main_v16) = (alpha (V0 (Proc.devRef .tc main_arg0))) := (val_main_v16 V0)
  rw [h0]
  try rfl

/-- `main_v22` after stage 2. -/
theorem val_main_v22 (V0 : Valuation τ sig (Elt F)) : v2 V0 (Proc.devRef .tc main_v22) = (encScale (alpha (V0 (Proc.devRef .tc main_arg0))) (Host.acosh (alpha (V0 (Proc.devRef .tc main_arg0))))) := by
  refine (st2_main_v22 (v1 V0)).trans ?_
  have h0 : (v1 V0) (Proc.devRef .tc main_v16) = (alpha (V0 (Proc.devRef .tc main_arg0))) := (st1_keep _ main_v16 (by decide)).trans <| (val_main_v16 V0)
  have h1 : (v1 V0) (Proc.devRef .tc main_v17) = (Host.acosh (alpha (V0 (Proc.devRef .tc main_arg0)))) := (val_main_v17 V0)
  rw [h0, h1]
  try rfl

/-- `main_v25` after stage 2. -/
theorem val_main_v25 (V0 : Valuation τ sig (Elt F)) : v2 V0 (Proc.devRef .tc main_v25) = (encLead (lead (V0 (Proc.devRef .tc main_arg0))) (alpha (V0 (Proc.devRef .tc main_arg0)))) := by
  refine (st2_main_v25 (v1 V0)).trans ?_
  have h0 : (v1 V0) (Proc.devRef .tc main_v12) = (lead (V0 (Proc.devRef .tc main_arg0))) := (st1_keep _ main_v12 (by decide)).trans <| (val_main_v12 V0)
  have h1 : (v1 V0) (Proc.devRef .tc main_v16) = (alpha (V0 (Proc.devRef .tc main_arg0))) := (st1_keep _ main_v16 (by decide)).trans <| (val_main_v16 V0)
  rw [h0, h1]
  try rfl

/-- `main_v26` after stage 2. -/
theorem val_main_v26 (V0 : Valuation τ sig (Elt F)) : v2 V0 (Proc.devRef .tc main_v26) = (rest (V0 (Proc.devRef .tc main_arg0))) := by
  refine (st2_main_v26 (v1 V0)).trans ?_
  have h0 : (v1 V0) (Proc.devRef .tc main_arg0) = (V0 (Proc.devRef .tc main_arg0)) := (st1_keep _ main_arg0 (by decide)).trans <| (st0_keep _ main_arg0 (by decide)).trans <| rfl
  rw [h0]
  try rfl

/-- `main_v30` after stage 3. -/
theorem val_main_v30 (V0 : Valuation τ sig (Elt F)) : v3 V0 (Proc.devRef .tc main_v30) = (enc (V0 (Proc.devRef .tc main_arg0)) (V0 (Proc.devRef .tc main_arg2))) := by
  refine (st3_main_v30 (v2 V0)).trans ?_
  have h0 : (v2 V0) (Proc.devRef .tc main_v22) = (encScale (alpha (V0 (Proc.devRef .tc main_arg0))) (Host.acosh (alpha (V0 (Proc.devRef .tc main_arg0))))) := (val_main_v22 V0)
  have h1 : (v2 V0) (Proc.devRef .tc main_v25) = (encLead (lead (V0 (Proc.devRef .tc main_arg0))) (alpha (V0 (Proc.devRef .tc main_arg0)))) := (val_main_v25 V0)
  have h2 : (v2 V0) (Proc.devRef .tc main_v26) = (rest (V0 (Proc.devRef .tc main_arg0))) := (val_main_v26 V0)
  have h3 : (v2 V0) (Proc.devRef .tc main_arg2) = (V0 (Proc.devRef .tc main_arg2)) := (st2_keep _ main_arg2 (by decide)).trans <| (st1_keep _ main_arg2 (by decide)).trans <| (st0_keep _ main_arg2 (by decide)).trans <| rfl
  rw [h0, h1, h2, h3]
  try rfl

/-- `main_v48` after stage 4. -/
theorem val_main_v48 (V0 : Valuation τ sig (Elt F)) : v4 V0 (Proc.devRef .tc main_v48) = (layer64 (dinvCol (dstOf (V0 (Proc.devRef .tc main_arg1)))) (srcOf (V0 (Proc.devRef .tc main_arg1))) (dstOf (V0 (Proc.devRef .tc main_arg1))) (enc (V0 (Proc.devRef .tc main_arg0)) (V0 (Proc.devRef .tc main_arg2))) (V0 (Proc.devRef .tc main_arg3))) := by
  refine (st4_main_v48 (v3 V0)).trans ?_
  have h0 : (v3 V0) (Proc.devRef .tc main_v11) = (dinvCol (dstOf (V0 (Proc.devRef .tc main_arg1)))) := (st3_keep _ main_v11 (by decide)).trans <| (st2_keep _ main_v11 (by decide)).trans <| (st1_keep _ main_v11 (by decide)).trans <| (val_main_v11 V0)
  have h1 : (v3 V0) (Proc.devRef .tc main_v1) = (srcOf (V0 (Proc.devRef .tc main_arg1))) := (st3_keep _ main_v1 (by decide)).trans <| (st2_keep _ main_v1 (by decide)).trans <| (st1_keep _ main_v1 (by decide)).trans <| (val_main_v1 V0)
  have h2 : (v3 V0) (Proc.devRef .tc main_v3) = (dstOf (V0 (Proc.devRef .tc main_arg1))) := (st3_keep _ main_v3 (by decide)).trans <| (st2_keep _ main_v3 (by decide)).trans <| (st1_keep _ main_v3 (by decide)).trans <| (val_main_v3 V0)
  have h3 : (v3 V0) (Proc.devRef .tc main_v30) = (enc (V0 (Proc.devRef .tc main_arg0)) (V0 (Proc.devRef .tc main_arg2))) := (val_main_v30 V0)
  have h4 : (v3 V0) (Proc.devRef .tc main_arg3) = (V0 (Proc.devRef .tc main_arg3)) := (st3_keep _ main_arg3 (by decide)).trans <| (st2_keep _ main_arg3 (by decide)).trans <| (st1_keep _ main_arg3 (by decide)).trans <| (st0_keep _ main_arg3 (by decide)).trans <| rfl
  rw [h0, h1, h2, h3, h4]
  try rfl

/-- `main_v49` after stage 5. -/
theorem val_main_v49 (V0 : Valuation τ sig (Elt F)) : v5 V0 (Proc.devRef .tc main_v49) = (relu (layer64 (dinvCol (dstOf (V0 (Proc.devRef .tc main_arg1)))) (srcOf (V0 (Proc.devRef .tc main_arg1))) (dstOf (V0 (Proc.devRef .tc main_arg1))) (enc (V0 (Proc.devRef .tc main_arg0)) (V0 (Proc.devRef .tc main_arg2))) (V0 (Proc.devRef .tc main_arg3)))) := by
  refine (st5_main_v49 (v4 V0)).trans ?_
  have h0 : (v4 V0) (Proc.devRef .tc main_v48) = (layer64 (dinvCol (dstOf (V0 (Proc.devRef .tc main_arg1)))) (srcOf (V0 (Proc.devRef .tc main_arg1))) (dstOf (V0 (Proc.devRef .tc main_arg1))) (enc (V0 (Proc.devRef .tc main_arg0)) (V0 (Proc.devRef .tc main_arg2))) (V0 (Proc.devRef .tc main_arg3))) := (val_main_v48 V0)
  rw [h0]
  try rfl

/-- `main_v68` after stage 6. -/
theorem val_main_v68 (V0 : Valuation τ sig (Elt F)) : v6 V0 (Proc.devRef .tc main_v68) = (layer64 (dinvCol (dstOf (V0 (Proc.devRef .tc main_arg1)))) (srcOf (V0 (Proc.devRef .tc main_arg1))) (dstOf (V0 (Proc.devRef .tc main_arg1))) (proj2 (relu (layer64 (dinvCol (dstOf (V0 (Proc.devRef .tc main_arg1)))) (srcOf (V0 (Proc.devRef .tc main_arg1))) (dstOf (V0 (Proc.devRef .tc main_arg1))) (enc (V0 (Proc.devRef .tc main_arg0)) (V0 (Proc.devRef .tc main_arg2))) (V0 (Proc.devRef .tc main_arg3)))) (V0 (Proc.devRef .tc main_arg4))) (V0 (Proc.devRef .tc main_arg5))) := by
  refine (st6_main_v68 (v5 V0)).trans ?_
  have h0 : (v5 V0) (Proc.devRef .tc main_v11) = (dinvCol (dstOf (V0 (Proc.devRef .tc main_arg1)))) := (st5_keep _ main_v11 (by decide)).trans <| (st4_keep _ main_v11 (by decide)).trans <| (st3_keep _ main_v11 (by decide)).trans <| (st2_keep _ main_v11 (by decide)).trans <| (st1_keep _ main_v11 (by decide)).trans <| (val_main_v11 V0)
  have h1 : (v5 V0) (Proc.devRef .tc main_v1) = (srcOf (V0 (Proc.devRef .tc main_arg1))) := (st5_keep _ main_v1 (by decide)).trans <| (st4_keep _ main_v1 (by decide)).trans <| (st3_keep _ main_v1 (by decide)).trans <| (st2_keep _ main_v1 (by decide)).trans <| (st1_keep _ main_v1 (by decide)).trans <| (val_main_v1 V0)
  have h2 : (v5 V0) (Proc.devRef .tc main_v3) = (dstOf (V0 (Proc.devRef .tc main_arg1))) := (st5_keep _ main_v3 (by decide)).trans <| (st4_keep _ main_v3 (by decide)).trans <| (st3_keep _ main_v3 (by decide)).trans <| (st2_keep _ main_v3 (by decide)).trans <| (st1_keep _ main_v3 (by decide)).trans <| (val_main_v3 V0)
  have h3 : (v5 V0) (Proc.devRef .tc main_v49) = (relu (layer64 (dinvCol (dstOf (V0 (Proc.devRef .tc main_arg1)))) (srcOf (V0 (Proc.devRef .tc main_arg1))) (dstOf (V0 (Proc.devRef .tc main_arg1))) (enc (V0 (Proc.devRef .tc main_arg0)) (V0 (Proc.devRef .tc main_arg2))) (V0 (Proc.devRef .tc main_arg3)))) := (val_main_v49 V0)
  have h4 : (v5 V0) (Proc.devRef .tc main_arg4) = (V0 (Proc.devRef .tc main_arg4)) := (st5_keep _ main_arg4 (by decide)).trans <| (st4_keep _ main_arg4 (by decide)).trans <| (st3_keep _ main_arg4 (by decide)).trans <| (st2_keep _ main_arg4 (by decide)).trans <| (st1_keep _ main_arg4 (by decide)).trans <| (st0_keep _ main_arg4 (by decide)).trans <| rfl
  have h5 : (v5 V0) (Proc.devRef .tc main_arg5) = (V0 (Proc.devRef .tc main_arg5)) := (st5_keep _ main_arg5 (by decide)).trans <| (st4_keep _ main_arg5 (by decide)).trans <| (st3_keep _ main_arg5 (by decide)).trans <| (st2_keep _ main_arg5 (by decide)).trans <| (st1_keep _ main_arg5 (by decide)).trans <| (st0_keep _ main_arg5 (by decide)).trans <| rfl
  rw [h0, h1, h2, h3, h4, h5]
  try rfl

/-- `main_v69` after stage 7. -/
theorem val_main_v69 (V0 : Valuation τ sig (Elt F)) : v7 V0 (Proc.devRef .tc main_v69) = (relu (layer64 (dinvCol (dstOf (V0 (Proc.devRef .tc main_arg1)))) (srcOf (V0 (Proc.devRef .tc main_arg1))) (dstOf (V0 (Proc.devRef .tc main_arg1))) (proj2 (relu (layer64 (dinvCol (dstOf (V0 (Proc.devRef .tc main_arg1)))) (srcOf (V0 (Proc.devRef .tc main_arg1))) (dstOf (V0 (Proc.devRef .tc main_arg1))) (enc (V0 (Proc.devRef .tc main_arg0)) (V0 (Proc.devRef .tc main_arg2))) (V0 (Proc.devRef .tc main_arg3)))) (V0 (Proc.devRef .tc main_arg4))) (V0 (Proc.devRef .tc main_arg5)))) := by
  refine (st7_main_v69 (v6 V0)).trans ?_
  have h0 : (v6 V0) (Proc.devRef .tc main_v68) = (layer64 (dinvCol (dstOf (V0 (Proc.devRef .tc main_arg1)))) (srcOf (V0 (Proc.devRef .tc main_arg1))) (dstOf (V0 (Proc.devRef .tc main_arg1))) (proj2 (relu (layer64 (dinvCol (dstOf (V0 (Proc.devRef .tc main_arg1)))) (srcOf (V0 (Proc.devRef .tc main_arg1))) (dstOf (V0 (Proc.devRef .tc main_arg1))) (enc (V0 (Proc.devRef .tc main_arg0)) (V0 (Proc.devRef .tc main_arg2))) (V0 (Proc.devRef .tc main_arg3)))) (V0 (Proc.devRef .tc main_arg4))) (V0 (Proc.devRef .tc main_arg5))) := (val_main_v68 V0)
  rw [h0]
  try rfl

/-- `main_v88` after stage 8. -/
theorem val_main_v88 (V0 : Valuation τ sig (Elt F)) : v8 V0 (Proc.devRef .tc main_v88) = (net (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))) := by
  refine (st8_main_v88 (v7 V0)).trans ?_
  have h0 : (v7 V0) (Proc.devRef .tc main_v11) = (dinvCol (dstOf (V0 (Proc.devRef .tc main_arg1)))) := (st7_keep _ main_v11 (by decide)).trans <| (st6_keep _ main_v11 (by decide)).trans <| (st5_keep _ main_v11 (by decide)).trans <| (st4_keep _ main_v11 (by decide)).trans <| (st3_keep _ main_v11 (by decide)).trans <| (st2_keep _ main_v11 (by decide)).trans <| (st1_keep _ main_v11 (by decide)).trans <| (val_main_v11 V0)
  have h1 : (v7 V0) (Proc.devRef .tc main_v1) = (srcOf (V0 (Proc.devRef .tc main_arg1))) := (st7_keep _ main_v1 (by decide)).trans <| (st6_keep _ main_v1 (by decide)).trans <| (st5_keep _ main_v1 (by decide)).trans <| (st4_keep _ main_v1 (by decide)).trans <| (st3_keep _ main_v1 (by decide)).trans <| (st2_keep _ main_v1 (by decide)).trans <| (st1_keep _ main_v1 (by decide)).trans <| (val_main_v1 V0)
  have h2 : (v7 V0) (Proc.devRef .tc main_v3) = (dstOf (V0 (Proc.devRef .tc main_arg1))) := (st7_keep _ main_v3 (by decide)).trans <| (st6_keep _ main_v3 (by decide)).trans <| (st5_keep _ main_v3 (by decide)).trans <| (st4_keep _ main_v3 (by decide)).trans <| (st3_keep _ main_v3 (by decide)).trans <| (st2_keep _ main_v3 (by decide)).trans <| (st1_keep _ main_v3 (by decide)).trans <| (val_main_v3 V0)
  have h3 : (v7 V0) (Proc.devRef .tc main_v69) = (relu (layer64 (dinvCol (dstOf (V0 (Proc.devRef .tc main_arg1)))) (srcOf (V0 (Proc.devRef .tc main_arg1))) (dstOf (V0 (Proc.devRef .tc main_arg1))) (proj2 (relu (layer64 (dinvCol (dstOf (V0 (Proc.devRef .tc main_arg1)))) (srcOf (V0 (Proc.devRef .tc main_arg1))) (dstOf (V0 (Proc.devRef .tc main_arg1))) (enc (V0 (Proc.devRef .tc main_arg0)) (V0 (Proc.devRef .tc main_arg2))) (V0 (Proc.devRef .tc main_arg3)))) (V0 (Proc.devRef .tc main_arg4))) (V0 (Proc.devRef .tc main_arg5)))) := (val_main_v69 V0)
  have h4 : (v7 V0) (Proc.devRef .tc main_arg6) = (V0 (Proc.devRef .tc main_arg6)) := (st7_keep _ main_arg6 (by decide)).trans <| (st6_keep _ main_arg6 (by decide)).trans <| (st5_keep _ main_arg6 (by decide)).trans <| (st4_keep _ main_arg6 (by decide)).trans <| (st3_keep _ main_arg6 (by decide)).trans <| (st2_keep _ main_arg6 (by decide)).trans <| (st1_keep _ main_arg6 (by decide)).trans <| (st0_keep _ main_arg6 (by decide)).trans <| rfl
  have h5 : (v7 V0) (Proc.devRef .tc main_arg7) = (V0 (Proc.devRef .tc main_arg7)) := (st7_keep _ main_arg7 (by decide)).trans <| (st6_keep _ main_arg7 (by decide)).trans <| (st5_keep _ main_arg7 (by decide)).trans <| (st4_keep _ main_arg7 (by decide)).trans <| (st3_keep _ main_arg7 (by decide)).trans <| (st2_keep _ main_arg7 (by decide)).trans <| (st1_keep _ main_arg7 (by decide)).trans <| (st0_keep _ main_arg7 (by decide)).trans <| rfl
  rw [h0, h1, h2, h3, h4, h5]
  try rfl

/-- `main_v89` after stage 8. -/
theorem val_main_v89 (V0 : Valuation τ sig (Elt F)) : v8 V0 (Proc.devRef .tc main_v89) = (rest (V0 (Proc.devRef .tc main_arg0))) := by
  refine (st8_main_v89 (v7 V0)).trans ?_
  have h0 : (v7 V0) (Proc.devRef .tc main_arg0) = (V0 (Proc.devRef .tc main_arg0)) := (st7_keep _ main_arg0 (by decide)).trans <| (st6_keep _ main_arg0 (by decide)).trans <| (st5_keep _ main_arg0 (by decide)).trans <| (st4_keep _ main_arg0 (by decide)).trans <| (st3_keep _ main_arg0 (by decide)).trans <| (st2_keep _ main_arg0 (by decide)).trans <| (st1_keep _ main_arg0 (by decide)).trans <| (st0_keep _ main_arg0 (by decide)).trans <| rfl
  rw [h0]
  try rfl

/-- `main_v97` after stage 9. -/
theorem val_main_v97 (V0 : Valuation τ sig (Elt F)) : v9 V0 (Proc.devRef .tc main_v97) = (pick (feat (net (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))) (rest (V0 (Proc.devRef .tc main_arg0)))) (srcOf (V0 (Proc.devRef .tc main_arg1)))) := by
  refine (st9_main_v97 (v8 V0)).trans ?_
  have h0 : (v8 V0) (Proc.devRef .tc main_v88) = (net (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))) := (val_main_v88 V0)
  have h1 : (v8 V0) (Proc.devRef .tc main_v89) = (rest (V0 (Proc.devRef .tc main_arg0))) := (val_main_v89 V0)
  have h2 : (v8 V0) (Proc.devRef .tc main_v1) = (srcOf (V0 (Proc.devRef .tc main_arg1))) := (st8_keep _ main_v1 (by decide)).trans <| (st7_keep _ main_v1 (by decide)).trans <| (st6_keep _ main_v1 (by decide)).trans <| (st5_keep _ main_v1 (by decide)).trans <| (st4_keep _ main_v1 (by decide)).trans <| (st3_keep _ main_v1 (by decide)).trans <| (st2_keep _ main_v1 (by decide)).trans <| (st1_keep _ main_v1 (by decide)).trans <| (val_main_v1 V0)
  rw [h0, h1, h2]
  try rfl

/-- `main_v104` after stage 9. -/
theorem val_main_v104 (V0 : Valuation τ sig (Elt F)) : v9 V0 (Proc.devRef .tc main_v104) = (pick (feat (net (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))) (rest (V0 (Proc.devRef .tc main_arg0)))) (dstOf (V0 (Proc.devRef .tc main_arg1)))) := by
  refine (st9_main_v104 (v8 V0)).trans ?_
  have h0 : (v8 V0) (Proc.devRef .tc main_v88) = (net (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))) := (val_main_v88 V0)
  have h1 : (v8 V0) (Proc.devRef .tc main_v89) = (rest (V0 (Proc.devRef .tc main_arg0))) := (val_main_v89 V0)
  have h2 : (v8 V0) (Proc.devRef .tc main_v3) = (dstOf (V0 (Proc.devRef .tc main_arg1))) := (st8_keep _ main_v3 (by decide)).trans <| (st7_keep _ main_v3 (by decide)).trans <| (st6_keep _ main_v3 (by decide)).trans <| (st5_keep _ main_v3 (by decide)).trans <| (st4_keep _ main_v3 (by decide)).trans <| (st3_keep _ main_v3 (by decide)).trans <| (st2_keep _ main_v3 (by decide)).trans <| (st1_keep _ main_v3 (by decide)).trans <| (val_main_v3 V0)
  rw [h0, h1, h2]
  try rfl

/-- `main_v105` after stage 10. -/
theorem val_main_v105 (V0 : Valuation τ sig (Elt F)) : v10 V0 (Proc.devRef .tc main_v105) = (wcat (V0 (Proc.devRef .tc main_arg8)) (V0 (Proc.devRef .tc main_arg12))) := by
  refine (st10_main_v105 (v9 V0)).trans ?_
  have h0 : (v9 V0) (Proc.devRef .tc main_arg8) = (V0 (Proc.devRef .tc main_arg8)) := (st9_keep _ main_arg8 (by decide)).trans <| (st8_keep _ main_arg8 (by decide)).trans <| (st7_keep _ main_arg8 (by decide)).trans <| (st6_keep _ main_arg8 (by decide)).trans <| (st5_keep _ main_arg8 (by decide)).trans <| (st4_keep _ main_arg8 (by decide)).trans <| (st3_keep _ main_arg8 (by decide)).trans <| (st2_keep _ main_arg8 (by decide)).trans <| (st1_keep _ main_arg8 (by decide)).trans <| (st0_keep _ main_arg8 (by decide)).trans <| rfl
  have h1 : (v9 V0) (Proc.devRef .tc main_arg12) = (V0 (Proc.devRef .tc main_arg12)) := (st9_keep _ main_arg12 (by decide)).trans <| (st8_keep _ main_arg12 (by decide)).trans <| (st7_keep _ main_arg12 (by decide)).trans <| (st6_keep _ main_arg12 (by decide)).trans <| (st5_keep _ main_arg12 (by decide)).trans <| (st4_keep _ main_arg12 (by decide)).trans <| (st3_keep _ main_arg12 (by decide)).trans <| (st2_keep _ main_arg12 (by decide)).trans <| (st1_keep _ main_arg12 (by decide)).trans <| (st0_keep _ main_arg12 (by decide)).trans <| rfl
  rw [h0, h1]
  try rfl

/-- `main_v107` after stage 11. -/
theorem val_main_v107 (V0 : Valuation τ sig (Elt F)) : v11 V0 (Proc.devRef .tc main_v107) = (asRow (vcat (V0 (Proc.devRef .tc main_arg9)) (V0 (Proc.devRef .tc main_arg13)))) := by
  refine (st11_main_v107 (v10 V0)).trans ?_
  have h0 : (v10 V0) (Proc.devRef .tc main_arg9) = (V0 (Proc.devRef .tc main_arg9)) := (st10_keep _ main_arg9 (by decide)).trans <| (st9_keep _ main_arg9 (by decide)).trans <| (st8_keep _ main_arg9 (by decide)).trans <| (st7_keep _ main_arg9 (by decide)).trans <| (st6_keep _ main_arg9 (by decide)).trans <| (st5_keep _ main_arg9 (by decide)).trans <| (st4_keep _ main_arg9 (by decide)).trans <| (st3_keep _ main_arg9 (by decide)).trans <| (st2_keep _ main_arg9 (by decide)).trans <| (st1_keep _ main_arg9 (by decide)).trans <| (st0_keep _ main_arg9 (by decide)).trans <| rfl
  have h1 : (v10 V0) (Proc.devRef .tc main_arg13) = (V0 (Proc.devRef .tc main_arg13)) := (st10_keep _ main_arg13 (by decide)).trans <| (st9_keep _ main_arg13 (by decide)).trans <| (st8_keep _ main_arg13 (by decide)).trans <| (st7_keep _ main_arg13 (by decide)).trans <| (st6_keep _ main_arg13 (by decide)).trans <| (st5_keep _ main_arg13 (by decide)).trans <| (st4_keep _ main_arg13 (by decide)).trans <| (st3_keep _ main_arg13 (by decide)).trans <| (st2_keep _ main_arg13 (by decide)).trans <| (st1_keep _ main_arg13 (by decide)).trans <| (st0_keep _ main_arg13 (by decide)).trans <| rfl
  rw [h0, h1]
  try rfl

/-- `main_v108` after stage 11. -/
theorem val_main_v108 (V0 : Valuation τ sig (Elt F)) : v11 V0 (Proc.devRef .tc main_v108) = (flat (V0 (Proc.devRef .tc main_arg10))) := by
  refine (st11_main_v108 (v10 V0)).trans ?_
  have h0 : (v10 V0) (Proc.devRef .tc main_arg10) = (V0 (Proc.devRef .tc main_arg10)) := (st10_keep _ main_arg10 (by decide)).trans <| (st9_keep _ main_arg10 (by decide)).trans <| (st8_keep _ main_arg10 (by decide)).trans <| (st7_keep _ main_arg10 (by decide)).trans <| (st6_keep _ main_arg10 (by decide)).trans <| (st5_keep _ main_arg10 (by decide)).trans <| (st4_keep _ main_arg10 (by decide)).trans <| (st3_keep _ main_arg10 (by decide)).trans <| (st2_keep _ main_arg10 (by decide)).trans <| (st1_keep _ main_arg10 (by decide)).trans <| (st0_keep _ main_arg10 (by decide)).trans <| rfl
  rw [h0]
  try rfl

/-- `main_v109` after stage 11. -/
theorem val_main_v109 (V0 : Valuation τ sig (Elt F)) : v11 V0 (Proc.devRef .tc main_v109) = (flat (V0 (Proc.devRef .tc main_arg14))) := by
  refine (st11_main_v109 (v10 V0)).trans ?_
  have h0 : (v10 V0) (Proc.devRef .tc main_arg14) = (V0 (Proc.devRef .tc main_arg14)) := (st10_keep _ main_arg14 (by decide)).trans <| (st9_keep _ main_arg14 (by decide)).trans <| (st8_keep _ main_arg14 (by decide)).trans <| (st7_keep _ main_arg14 (by decide)).trans <| (st6_keep _ main_arg14 (by decide)).trans <| (st5_keep _ main_arg14 (by decide)).trans <| (st4_keep _ main_arg14 (by decide)).trans <| (st3_keep _ main_arg14 (by decide)).trans <| (st2_keep _ main_arg14 (by decide)).trans <| (st1_keep _ main_arg14 (by decide)).trans <| (st0_keep _ main_arg14 (by decide)).trans <| rfl
  rw [h0]
  try rfl

/-- `main_v111` after stage 12. -/
theorem val_main_v111 (V0 : Valuation τ sig (Elt F)) : v12 V0 (Proc.devRef .tc main_v111) = (asRow (vcat (flat (V0 (Proc.devRef .tc main_arg10))) (flat (V0 (Proc.devRef .tc main_arg14))))) := by
  refine (st12_main_v111 (v11 V0)).trans ?_
  have h0 : (v11 V0) (Proc.devRef .tc main_v108) = (flat (V0 (Proc.devRef .tc main_arg10))) := (val_main_v108 V0)
  have h1 : (v11 V0) (Proc.devRef .tc main_v109) = (flat (V0 (Proc.devRef .tc main_arg14))) := (val_main_v109 V0)
  rw [h0, h1]
  try rfl

/-- `main_v112` after stage 12. -/
theorem val_main_v112 (V0 : Valuation τ sig (Elt F)) : v12 V0 (Proc.devRef .tc main_v112) = zrow := by
  refine (st12_main_v112 (v11 V0)).trans ?_
  rfl

/-- `main_v113` after stage 12. -/
theorem val_main_v113 (V0 : Valuation τ sig (Elt F)) : v12 V0 (Proc.devRef .tc main_v113) = (scal (V0 (Proc.devRef .tc main_arg11))) := by
  refine (st12_main_v113 (v11 V0)).trans ?_
  have h0 : (v11 V0) (Proc.devRef .tc main_arg11) = (V0 (Proc.devRef .tc main_arg11)) := (st11_keep _ main_arg11 (by decide)).trans <| (st10_keep _ main_arg11 (by decide)).trans <| (st9_keep _ main_arg11 (by decide)).trans <| (st8_keep _ main_arg11 (by decide)).trans <| (st7_keep _ main_arg11 (by decide)).trans <| (st6_keep _ main_arg11 (by decide)).trans <| (st5_keep _ main_arg11 (by decide)).trans <| (st4_keep _ main_arg11 (by decide)).trans <| (st3_keep _ main_arg11 (by decide)).trans <| (st2_keep _ main_arg11 (by decide)).trans <| (st1_keep _ main_arg11 (by decide)).trans <| (st0_keep _ main_arg11 (by decide)).trans <| rfl
  rw [h0]
  try rfl

/-- `main_v114` after stage 12. -/
theorem val_main_v114 (V0 : Valuation τ sig (Elt F)) : v12 V0 (Proc.devRef .tc main_v114) = (word1 0#32) := by
  refine (st12_main_v114 (v11 V0)).trans ?_
  rfl

/-- `main_v115` after stage 12. -/
theorem val_main_v115 (V0 : Valuation τ sig (Elt F)) : v12 V0 (Proc.devRef .tc main_v115) = (word1 0#32) := by
  refine (st12_main_v115 (v11 V0)).trans ?_
  rfl

/-- `main_v117` after stage 13. -/
theorem val_main_v117 (V0 : Valuation τ sig (Elt F)) : v13 V0 (Proc.devRef .tc main_v117) = (place zrow (word1 0#32) (word1 0#32) (scal (V0 (Proc.devRef .tc main_arg11)))) := by
  refine (st13_main_v117 (v12 V0)).trans ?_
  have h0 : (v12 V0) (Proc.devRef .tc main_v112) = zrow := (val_main_v112 V0)
  have h1 : (v12 V0) (Proc.devRef .tc main_v114) = (word1 0#32) := (val_main_v114 V0)
  have h2 : (v12 V0) (Proc.devRef .tc main_v115) = (word1 0#32) := (val_main_v115 V0)
  have h3 : (v12 V0) (Proc.devRef .tc main_v113) = (scal (V0 (Proc.devRef .tc main_arg11))) := (val_main_v113 V0)
  rw [h0, h1, h2, h3]
  try rfl

/-- `main_v118` after stage 13. -/
theorem val_main_v118 (V0 : Valuation τ sig (Elt F)) : v13 V0 (Proc.devRef .tc main_v118) = (scal (V0 (Proc.devRef .tc main_arg15))) := by
  refine (st13_main_v118 (v12 V0)).trans ?_
  have h0 : (v12 V0) (Proc.devRef .tc main_arg15) = (V0 (Proc.devRef .tc main_arg15)) := (st12_keep _ main_arg15 (by decide)).trans <| (st11_keep _ main_arg15 (by decide)).trans <| (st10_keep _ main_arg15 (by decide)).trans <| (st9_keep _ main_arg15 (by decide)).trans <| (st8_keep _ main_arg15 (by decide)).trans <| (st7_keep _ main_arg15 (by decide)).trans <| (st6_keep _ main_arg15 (by decide)).trans <| (st5_keep _ main_arg15 (by decide)).trans <| (st4_keep _ main_arg15 (by decide)).trans <| (st3_keep _ main_arg15 (by decide)).trans <| (st2_keep _ main_arg15 (by decide)).trans <| (st1_keep _ main_arg15 (by decide)).trans <| (st0_keep _ main_arg15 (by decide)).trans <| rfl
  rw [h0]
  try rfl

/-- `main_v119` after stage 13. -/
theorem val_main_v119 (V0 : Valuation τ sig (Elt F)) : v13 V0 (Proc.devRef .tc main_v119) = (word1 0#32) := by
  refine (st13_main_v119 (v12 V0)).trans ?_
  rfl

/-- `main_v120` after stage 13. -/
theorem val_main_v120 (V0 : Valuation τ sig (Elt F)) : v13 V0 (Proc.devRef .tc main_v120) = (word1 1#32) := by
  refine (st13_main_v120 (v12 V0)).trans ?_
  rfl

/-- `main_v122` after stage 14. -/
theorem val_main_v122 (V0 : Valuation τ sig (Elt F)) : v14 V0 (Proc.devRef .tc main_v122) = (tail (V0 (Proc.devRef .tc main_arg11)) (V0 (Proc.devRef .tc main_arg15))) := by
  refine (st14_main_v122 (v13 V0)).trans ?_
  have h0 : (v13 V0) (Proc.devRef .tc main_v117) = (place zrow (word1 0#32) (word1 0#32) (scal (V0 (Proc.devRef .tc main_arg11)))) := (val_main_v117 V0)
  have h1 : (v13 V0) (Proc.devRef .tc main_v119) = (word1 0#32) := (val_main_v119 V0)
  have h2 : (v13 V0) (Proc.devRef .tc main_v120) = (word1 1#32) := (val_main_v120 V0)
  have h3 : (v13 V0) (Proc.devRef .tc main_v118) = (scal (V0 (Proc.devRef .tc main_arg15))) := (val_main_v118 V0)
  rw [h0, h1, h2, h3]
  try rfl

/-! ## The whole line -/

/-- The host operations before the grid, run in order, are the stages run in order. -/
theorem chain (V0 : Valuation τ sig (Elt F)) :
    after (List.flatten [hostOps0, hostOps0_1, hostOps0_2, hostOps0_3, hostOps0_4, hostOps0_5, hostOps0_6]) V0 = v14 V0 := by
  have h : (List.flatten [hostOps0, hostOps0_1, hostOps0_2, hostOps0_3, hostOps0_4, hostOps0_5, hostOps0_6] : List (HloOp τ sig (Elt F)))
      = st0 ++ (st1 ++ (st2 ++ (st3 ++ (st4 ++ (st5 ++ (st6 ++ (st7 ++ (st8 ++ (st9 ++ (st10 ++ (st11 ++ (st12 ++ (st13 ++ st14))))))))))))) := rfl
  rw [h]
  simp only [after_append]
  rfl

variable (m : (ℓ : Loc nD τ sig) → Buf (Elt F) ℓ)

/-- The kernel's operand 0, after all stages. -/
theorem fin_main_v97 (V0 : Valuation τ sig (Elt F)) : v14 V0 (Proc.devRef .tc main_v97) = (pick (feat (net (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))) (rest (V0 (Proc.devRef .tc main_arg0)))) (srcOf (V0 (Proc.devRef .tc main_arg1)))) :=
  (st14_keep _ main_v97 (by decide)).trans <| (st13_keep _ main_v97 (by decide)).trans <| (st12_keep _ main_v97 (by decide)).trans <| (st11_keep _ main_v97 (by decide)).trans <| (st10_keep _ main_v97 (by decide)).trans <| (val_main_v97 V0)

/-- The kernel's operand 0, when the grid is entered. -/
theorem V_main_v97 (c : Dev nD) : V m c main_v97 = (fun V0 : Valuation τ sig (Elt F) => (pick (feat (net (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))) (rest (V0 (Proc.devRef .tc main_arg0)))) (srcOf (V0 (Proc.devRef .tc main_arg1))))) (fun b => m (c, b)) :=
  (congrFun (chain (fun b => m (c, b))) (Proc.devRef .tc main_v97)).trans (fin_main_v97 _)

/-- The kernel's operand 1, after all stages. -/
theorem fin_main_v104 (V0 : Valuation τ sig (Elt F)) : v14 V0 (Proc.devRef .tc main_v104) = (pick (feat (net (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))) (rest (V0 (Proc.devRef .tc main_arg0)))) (dstOf (V0 (Proc.devRef .tc main_arg1)))) :=
  (st14_keep _ main_v104 (by decide)).trans <| (st13_keep _ main_v104 (by decide)).trans <| (st12_keep _ main_v104 (by decide)).trans <| (st11_keep _ main_v104 (by decide)).trans <| (st10_keep _ main_v104 (by decide)).trans <| (val_main_v104 V0)

/-- The kernel's operand 1, when the grid is entered. -/
theorem V_main_v104 (c : Dev nD) : V m c main_v104 = (fun V0 : Valuation τ sig (Elt F) => (pick (feat (net (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7))) (rest (V0 (Proc.devRef .tc main_arg0)))) (dstOf (V0 (Proc.devRef .tc main_arg1))))) (fun b => m (c, b)) :=
  (congrFun (chain (fun b => m (c, b))) (Proc.devRef .tc main_v104)).trans (fin_main_v104 _)

/-- The kernel's operand 2, after all stages. -/
theorem fin_main_v105 (V0 : Valuation τ sig (Elt F)) : v14 V0 (Proc.devRef .tc main_v105) = (wcat (V0 (Proc.devRef .tc main_arg8)) (V0 (Proc.devRef .tc main_arg12))) :=
  (st14_keep _ main_v105 (by decide)).trans <| (st13_keep _ main_v105 (by decide)).trans <| (st12_keep _ main_v105 (by decide)).trans <| (st11_keep _ main_v105 (by decide)).trans <| (val_main_v105 V0)

/-- The kernel's operand 2, when the grid is entered. -/
theorem V_main_v105 (c : Dev nD) : V m c main_v105 = (fun V0 : Valuation τ sig (Elt F) => (wcat (V0 (Proc.devRef .tc main_arg8)) (V0 (Proc.devRef .tc main_arg12)))) (fun b => m (c, b)) :=
  (congrFun (chain (fun b => m (c, b))) (Proc.devRef .tc main_v105)).trans (fin_main_v105 _)

/-- The kernel's operand 3, after all stages. -/
theorem fin_main_v107 (V0 : Valuation τ sig (Elt F)) : v14 V0 (Proc.devRef .tc main_v107) = (asRow (vcat (V0 (Proc.devRef .tc main_arg9)) (V0 (Proc.devRef .tc main_arg13)))) :=
  (st14_keep _ main_v107 (by decide)).trans <| (st13_keep _ main_v107 (by decide)).trans <| (st12_keep _ main_v107 (by decide)).trans <| (val_main_v107 V0)

/-- The kernel's operand 3, when the grid is entered. -/
theorem V_main_v107 (c : Dev nD) : V m c main_v107 = (fun V0 : Valuation τ sig (Elt F) => (asRow (vcat (V0 (Proc.devRef .tc main_arg9)) (V0 (Proc.devRef .tc main_arg13))))) (fun b => m (c, b)) :=
  (congrFun (chain (fun b => m (c, b))) (Proc.devRef .tc main_v107)).trans (fin_main_v107 _)

/-- The kernel's operand 4, after all stages. -/
theorem fin_main_v111 (V0 : Valuation τ sig (Elt F)) : v14 V0 (Proc.devRef .tc main_v111) = (asRow (vcat (flat (V0 (Proc.devRef .tc main_arg10))) (flat (V0 (Proc.devRef .tc main_arg14))))) :=
  (st14_keep _ main_v111 (by decide)).trans <| (st13_keep _ main_v111 (by decide)).trans <| (val_main_v111 V0)

/-- The kernel's operand 4, when the grid is entered. -/
theorem V_main_v111 (c : Dev nD) : V m c main_v111 = (fun V0 : Valuation τ sig (Elt F) => (asRow (vcat (flat (V0 (Proc.devRef .tc main_arg10))) (flat (V0 (Proc.devRef .tc main_arg14)))))) (fun b => m (c, b)) :=
  (congrFun (chain (fun b => m (c, b))) (Proc.devRef .tc main_v111)).trans (fin_main_v111 _)

/-- The kernel's operand 5, after all stages. -/
theorem fin_main_v122 (V0 : Valuation τ sig (Elt F)) : v14 V0 (Proc.devRef .tc main_v122) = (tail (V0 (Proc.devRef .tc main_arg11)) (V0 (Proc.devRef .tc main_arg15))) :=
  (val_main_v122 V0)

/-- The kernel's operand 5, when the grid is entered. -/
theorem V_main_v122 (c : Dev nD) : V m c main_v122 = (fun V0 : Valuation τ sig (Elt F) => (tail (V0 (Proc.devRef .tc main_arg11)) (V0 (Proc.devRef .tc main_arg15)))) (fun b => m (c, b)) :=
  (congrFun (chain (fun b => m (c, b))) (Proc.devRef .tc main_v122)).trans (fin_main_v122 _)

end Cert.KernelIdeal.Net

end
-- ==== Proof.Rows.lean ====
/- Reading a row gather and an accumulating row scatter at one element.

   `table[idx]` over the rows of a table reads, at `(r, j)`, the table at the row the index word names, clamped into
   the table. `zeros.at[idx].add(rows)` holds, at `(n, j)`, what was there plus the sum over the rows `r` whose index
   word is `n` of their element `j`; a word that names no row of the table is dropped. -/
module

public import Idealize.ShloMosaic.Lib.Routing.OpsPair
public import Idealize.ShloMosaic.Lib.StableHlo.Predicate
public import Idealize.ShloMosaic.Lib.ValueIdx
public import Idealize.ShloMosaic.PureOps.Ideal
public import Idealize.ShloMosaic.Lib.Pointwise
public import Idealize.ShloMosaic.Lib.Pointwise.IndexBridge

@[expose] public section

set_option maxRecDepth 16384

noncomputable section

namespace Cert.EdgeScore

open Idealize.ShloMosaic

/-! ## Gathers -/

/-- The dimension numbers of `table[idx]` over the rows of an `[N, C]` table at a column of `R` index words. -/
abbrev rowGather (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row of an `N`-row table that an index word names: read signed and clamped into the table. -/
def clampRow {N : Nat} (hN : 0 < N) (w : BitVec 32) : Fin N := ⟨min w.toInt.toNat (N - 1), by omega⟩

/-- Element `(r, j)` of `table[idx]` is element `j` of the row the `r`-th word names. -/
theorem gather_rows {α : Type} {N C R : Nat} (hN : 0 < N)
    (wf : GatherDims.WF ⟨2, ![N, C]⟩ ⟨2, ![R, 1]⟩ ⟨2, ![R, C]⟩ [1] [0] [] [0] [] 1 ![1, C])
    (d : GatherDims ⟨2, ![N, C]⟩ ⟨2, ![R, 1]⟩ ⟨2, ![R, C]⟩) (hd : d = rowGather N C R wf)
    (x : (⟨2, ![N, C]⟩ : Shape).Idx → α) (idx : IVec ⟨2, ![R, 1]⟩ 32) (r : Fin R) (j : Fin C) :
    Host.gather d x idx (ix2 r j) = x (ix2 (clampRow hN (idx (ix2 r (0 : Fin 1)))) j) := by
  subst hd
  unfold Host.gather
  refine congrArg x (funext fun a => Fin.ext ?_)
  show (rowGather N C R wf).start (ix2 r j) idx a + (rowGather N C R wf).batchCoord (ix2 r j) a
      + (rowGather N C R wf).offCoord (ix2 r j) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    unfold GatherDims.start
    rw [dif_pos (show (0 : Fin 2) ∈ (rowGather N C R wf).startIndexMap from List.mem_singleton.mpr rfl)]
    have hsi : (rowGather N C R wf).siIdx (ix2 r j) ⟨List.idxOf (0 : Fin 2) (rowGather N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  · unfold GatherDims.start GatherDims.offCoord
    rw [dif_neg (show (1 : Fin 2) ∉ ([0] : List (Fin 2)) by decide),
      dif_pos ((GatherDims.mem_sKept _ _).mpr ⟨show (1 : Fin 2) ∉ ([0] : List (Fin 2)) by decide, List.not_mem_nil⟩), Nat.zero_add]
    rfl

/-- Element `p` of `v[idx]` over a vector is the vector's element at the place the `p`-th word names. -/
theorem gather_vec {α : Type} {N R : Nat} (hN : 0 < N) (d : GatherDims ⟨1, ![N]⟩ ⟨2, ![R, 1]⟩ ⟨1, ![R]⟩)
    (hcoll : d.collapsedSliceDims = [0]) (hob : d.operandBatchingDims = []) (hsim : d.startIndexMap = [0])
    (hivd : d.indexVectorDim = 1) (x : (⟨1, ![N]⟩ : Shape).Idx → α) (idx : IVec ⟨2, ![R, 1]⟩ 32) (p : Fin R) :
    Host.gather d x idx (ix1 p) = x (ix1 (clampRow hN (idx (ix2 p (0 : Fin 1))))) := by
  have h := StableHlo.Predicate.gather_take d hcoll hob hsim hivd x idx p hN
  have e : ∀ {n : Nat} (q : Fin n), (Shape.Idx.ofFin q : (⟨1, ![n]⟩ : Shape).Idx) = ix1 q := fun q => by
    funext a
    match a with
    | ⟨0, _⟩ => rfl
  have eP : (StableHlo.Predicate.ixP p : (⟨2, ![R, 1]⟩ : Shape).Idx) = ix2 p (0 : Fin 1) := by
    funext a
    match a with
    | ⟨0, _⟩ => rfl
    | ⟨1, _⟩ => rfl
  rw [e, e] at h
  exact h.trans (congrArg (fun q => x (ix1 (clampRow hN (idx q)))) eP)

/-! ## Accumulating scatters -/

/-- The dimension numbers of `x.at[idx].add(rows)` over the rows of an `[N, C]` table. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Element `j'` of the `r`-th row lands at `(n, j)` exactly when the `r`-th word is `n` and `j' = j`. -/
theorem rowScatter_lands {N C R : Nat} (wf : ScatterDims.WF ⟨2, ![N, C]⟩ ⟨2, ![R, 1]⟩ ⟨2, ![R, C]⟩ [1] [0] [0] 1)
    (idx : IVec ⟨2, ![R, 1]⟩ 32) (r : Fin R) (j' : Fin C) (n : Fin N) (j : Fin C) :
    (rowScatter N C R wf).resultIdx? (ix2 r j') idx = some (ix2 n j)
      ↔ (idx (ix2 r (0 : Fin 1))).toInt = (n.val : Int) ∧ j' = j := by
  rw [ix2_eq_valueIdx n j, Routing.resultIdx?_ix2]
  have hs0 : (rowScatter N C R wf).start (ix2 r j') idx 0 = (idx (ix2 r (0 : Fin 1))).toInt := by
    unfold ScatterDims.start
    rw [dif_pos (show (0 : Fin 2) ∈ (rowScatter N C R wf).scatterDimsToOperandDims from List.mem_singleton.mpr rfl)]
    have hsi : (rowScatter N C R wf).siIdx (ix2 r j') ⟨List.idxOf (0 : Fin 2) (rowScatter N C R wf).scatterDimsToOperandDims,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
  have hw0 : (rowScatter N C R wf).window (ix2 r j') 0 = 0 := rfl
  have hs1 : (rowScatter N C R wf).start (ix2 r j') idx 1 = 0 := rfl
  have hw1 : (rowScatter N C R wf).window (ix2 r j') 1 = j'.val := rfl
  rw [hs0, hw0, hs1, hw1, Fin.ext_iff]
  omega

/-- Element `(n, j)` after `x.at[idx].add(rows)`: what `x` holds there plus the elements `j` of the rows whose word is `n`. -/
theorem scatter_rows {N C R : Nat} (wf : ScatterDims.WF ⟨2, ![N, C]⟩ ⟨2, ![R, 1]⟩ ⟨2, ![R, C]⟩ [1] [0] [0] 1)
    (d : ScatterDims ⟨2, ![N, C]⟩ ⟨2, ![R, 1]⟩ ⟨2, ![R, C]⟩) (hd : d = rowScatter N C R wf)
    (x : FVec Ideal ⟨2, ![N, C]⟩ .f32) (idx : IVec ⟨2, ![R, 1]⟩ 32) (u : FVec Ideal ⟨2, ![R, C]⟩ .f32) (n : Fin N) (j : Fin C) :
    (Host.scatterAdd d x idx u (ix2 n j) : EReal)
      = x (ix2 n j) + ∑ r : Fin R, if (idx (ix2 r (0 : Fin 1))).toInt = (n.val : Int) then (u (ix2 r j) : EReal) else 0 := by
  subst hd
  show (x (ix2 n j) : EReal) + ∑ k ∈ Finset.univ.filter (fun k => (rowScatter N C R wf).resultIdx? k idx = some (ix2 n j)), (u k : EReal) = _
  congr 1
  rw [Finset.sum_filter, sum_idx2]
  refine Finset.sum_congr rfl fun r _ => ?_
  rw [Finset.sum_eq_single j]
  · exact if_congr ((rowScatter_lands wf idx r j n j).trans (and_iff_left rfl)) rfl rfl
  · intro j' _ hj'
    exact if_neg fun h => hj' ((rowScatter_lands wf idx r j' n j).1 h).2
  · intro h
    exact absurd (Finset.mem_univ j) h

/-- The dimension numbers of `x.at[idx].add(v)` over a vector of `N` elements. -/
abbrev vecScatter (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The `r`-th element lands at `n` exactly when the `r`-th word is `n`. -/
theorem vecScatter_lands {N R : Nat} (wf : ScatterDims.WF ⟨1, ![N]⟩ ⟨2, ![R, 1]⟩ ⟨1, ![R]⟩ [] [0] [0] 1)
    (idx : IVec ⟨2, ![R, 1]⟩ 32) (r : Fin R) (n : Fin N) :
    (vecScatter N R wf).resultIdx? (ix1 r) idx = some (ix1 n) ↔ (idx (ix2 r (0 : Fin 1))).toInt = (n.val : Int) := by
  rw [ix1_eq_valueIdx n, Routing.resultIdx?_ix1]
  have hs0 : (vecScatter N R wf).start (ix1 r) idx 0 = (idx (ix2 r (0 : Fin 1))).toInt := by
    unfold ScatterDims.start
    rw [dif_pos (show (0 : Fin 1) ∈ (vecScatter N R wf).scatterDimsToOperandDims from List.mem_singleton.mpr rfl)]
    have hsi : (vecScatter N R wf).siIdx (ix1 r) ⟨List.idxOf (0 : Fin 1) (vecScatter N R wf).scatterDimsToOperandDims,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
  have hw0 : (vecScatter N R wf).window (ix1 r) 0 = 0 := rfl
  rw [hs0, hw0]
  omega

/-- A sum over the indices of a vector is the sum over its positions. -/
theorem sum_vec {M : Type} [AddCommMonoid M] {n : Nat} (f : (⟨1, ![n]⟩ : Shape).Idx → M) : ∑ k, f k = ∑ r : Fin n, f (ix1 r) :=
  Fintype.sum_equiv ⟨fun k => k 0, fun r => ix1 r, fun k => (eq_ix1 k).symm, fun _ => rfl⟩ _ _ fun k => congrArg f (eq_ix1 k)

/-- Element `n` after `x.at[idx].add(v)`: what `x` holds there plus the elements of `v` whose word is `n`. -/
theorem scatter_vec {N R : Nat} (wf : ScatterDims.WF ⟨1, ![N]⟩ ⟨2, ![R, 1]⟩ ⟨1, ![R]⟩ [] [0] [0] 1)
    (d : ScatterDims ⟨1, ![N]⟩ ⟨2, ![R, 1]⟩ ⟨1, ![R]⟩) (hd : d = vecScatter N R wf)
    (x : FVec Ideal ⟨1, ![N]⟩ .f32) (idx : IVec ⟨2, ![R, 1]⟩ 32) (u : FVec Ideal ⟨1, ![R]⟩ .f32) (n : Fin N) :
    (Host.scatterAdd d x idx u (ix1 n) : EReal)
      = x (ix1 n) + ∑ r : Fin R, if (idx (ix2 r (0 : Fin 1))).toInt = (n.val : Int) then (u (ix1 r) : EReal) else 0 := by
  subst hd
  show (x (ix1 n) : EReal) + ∑ k ∈ Finset.univ.filter (fun k => (vecScatter N R wf).resultIdx? k idx = some (ix1 n)), (u k : EReal) = _
  congr 1
  rw [Finset.sum_filter, sum_vec]
  exact Finset.sum_congr rfl fun r _ => if_congr (vecScatter_lands wf idx r n) rfl rfl

end Cert.EdgeScore

end
-- ==== Proof.Graph.lean ====
/- The graph convolution, written two ways.

   One way keeps the loops apart: a node's row is scaled by its own reciprocal root degree once, outside the sum over
   the incoming edges, and its own row joins that sum as one more addend. The other way appends one loop per node to
   the edge list and scales every edge's row by both endpoints' factors. When no destination word is negative the two
   agree, over the extended reals: the factor is a nonnegative real number, so it distributes over the sum. -/
module

public import proofs.«01_k».proof.Proof.Rows

@[expose] public section

set_option maxRecDepth 16384

noncomputable section

namespace Cert.EdgeScore

open Idealize.ShloMosaic

/-! ## Words and nodes -/

/-- A word counted from the table's end when it is negative. -/
def wrapWord (w : BitVec 32) : BitVec 32 := Scalar.select (IntOp.cmpi .slt w 0#32) (IntOp.addi w 50000#32) w

/-- The node a word names. -/
def node (w : BitVec 32) : Fin 50000 := clampRow (by decide) (wrapWord w)

/-- A word that is not negative stands. -/
theorem wrapWord_of_nonneg {w : BitVec 32} (h : 0 ≤ w.toInt) : wrapWord w = w := by
  have hs : BitVec.slt w 0#32 = false := by
    rw [BitVec.slt_eq_decide]
    simpa using h
  unfold wrapWord IntOp.cmpi
  simp only [hs]
  rfl

/-- A word that is the number of a node names it. -/
theorem node_of_toInt {w : BitVec 32} {n : Fin 50000} (h : w.toInt = (n.val : Int)) : node w = n := by
  unfold node
  rw [wrapWord_of_nonneg (by omega)]
  refine Fin.ext ?_
  show min w.toInt.toNat (50000 - 1) = n.val
  have := n.isLt
  omega

/-! ## The edge list with a loop at each node -/

/-- The edges' words followed by each node's own number. -/
def withLoops (s : Fin 800000 → BitVec 32) (i : Fin 850000) : BitVec 32 :=
  if h : i.val < 800000 then s ⟨i.val, h⟩ else BitVec.ofNat 32 (i.val - 800000)

theorem withLoops_edge (s : Fin 800000 → BitVec 32) (e : Fin 800000) : withLoops s ⟨e.val, by omega⟩ = s e := dif_pos e.isLt

theorem withLoops_loop (s : Fin 800000 → BitVec 32) (n : Fin 50000) : withLoops s ⟨800000 + n.val, by omega⟩ = BitVec.ofNat 32 n.val := by
  unfold withLoops
  rw [dif_neg (by show ¬ 800000 + n.val < 800000; omega)]
  exact congrArg (BitVec.ofNat 32) (Nat.add_sub_cancel_left (n := 800000) (m := n.val))

/-- A loop's word is its node's number. -/
theorem loop_toInt (n : Fin 50000) : (BitVec.ofNat 32 n.val).toInt = (n.val : Int) := by
  have := n.isLt
  rw [BitVec.toInt_eq_toNat_cond, BitVec.toNat_ofNat, Nat.mod_eq_of_lt (by omega), if_pos (by omega)]

/-- A sum over the list with loops is the sum over the edges plus the sum over the nodes. -/
theorem sum_withLoops {M : Type} [AddCommMonoid M] (f : Fin 850000 → M) :
    ∑ i, f i = ∑ e : Fin 800000, f ⟨e.val, by omega⟩ + ∑ n : Fin 50000, f ⟨800000 + n.val, by omega⟩ :=
  Fin.sum_univ_add (a := 800000) (b := 50000) f

/-! ## The two spellings -/

/-- The reciprocal root of a node's degree, the loop counted. -/
def dinv (d : Fin 800000 → BitVec 32) (n : Fin 50000) : EReal :=
  Ideal.rsqrt (1 + ∑ e, if (d e).toInt = (n.val : Int) then (1 : EReal) else 0)

/-- One column of the convolution at a node, the loop kept apart. -/
def gcn (s d : Fin 800000 → BitVec 32) (X : Fin 50000 → EReal) (b : EReal) (n : Fin 50000) : EReal :=
  dinv d n * ((∑ e, if (d e).toInt = (n.val : Int) then X (node (s e)) * dinv d (node (s e)) else 0) + X n * dinv d n) + b

/-- The reciprocal root of a node's degree, over the list with loops. -/
def dinvLoops (d : Fin 850000 → BitVec 32) (n : Fin 50000) : EReal :=
  Ideal.rsqrt (∑ i, if (wrapWord (d i)).toInt = (n.val : Int) then (1 : EReal) else 0)

/-- One column of the convolution at a node, over the list with loops. -/
def gcnLoops (s d : Fin 850000 → BitVec 32) (X : Fin 50000 → EReal) (b : EReal) (n : Fin 50000) : EReal :=
  (∑ i, if (d i).toInt = (n.val : Int) then X (node (s i)) * (dinvLoops d (node (s i)) * dinvLoops d (node (d i))) else 0) + b

/-- The degrees agree. -/
theorem dinvLoops_withLoops {d : Fin 800000 → BitVec 32} (hd : ∀ e, 0 ≤ (d e).toInt) (n : Fin 50000) :
    dinvLoops (withLoops d) n = dinv d n := by
  unfold dinvLoops dinv
  rw [sum_withLoops, add_comm]
  refine congrArg Ideal.rsqrt (congrArg₂ (· + ·) ?_ ?_)
  · rw [Finset.sum_eq_single n]
    · rw [withLoops_loop, wrapWord_of_nonneg (by rw [loop_toInt]; omega), loop_toInt, if_pos rfl]
    · intro q _ hq
      rw [withLoops_loop, wrapWord_of_nonneg (by rw [loop_toInt]; omega), loop_toInt, if_neg]
      intro h
      exact hq (Fin.ext (by omega))
    · intro h
      exact absurd (Finset.mem_univ n) h
  · refine Finset.sum_congr rfl fun e _ => ?_
    rw [withLoops_edge, wrapWord_of_nonneg (hd e)]

/-- A count of edges, as a sum of ones, is a natural number. -/
theorem sum_ones {ι : Type} (S : Finset ι) (P : ι → Prop) [DecidablePred P] :
    ∃ k : ℕ, (∑ e ∈ S, if P e then (1 : EReal) else 0) = ((k : ℝ) : EReal) := by
  classical
  induction S using Finset.induction_on with
  | empty => exact ⟨0, by simp⟩
  | insert a S ha ih =>
    obtain ⟨k, hk⟩ := ih
    rw [Finset.sum_insert ha, hk]
    by_cases h : P a
    · exact ⟨k + 1, by rw [if_pos h]; push_cast; rw [add_comm]⟩
    · exact ⟨k, by rw [if_neg h, zero_add]⟩

/-- A node's factor is a nonnegative real number. -/
theorem dinv_real (d : Fin 800000 → BitVec 32) (n : Fin 50000) : ∃ r : ℝ, 0 ≤ r ∧ dinv d n = (r : EReal) := by
  obtain ⟨k, hk⟩ := sum_ones Finset.univ (fun e => (d e).toInt = (n.val : Int))
  unfold dinv
  rw [hk]
  refine ⟨(Real.sqrt (1 + k))⁻¹, by positivity, ?_⟩
  have h : (1 : EReal) + ((k : ℝ) : EReal) = ((1 + k : ℝ) : EReal) := by push_cast; rfl
  rw [h, Ideal.rsqrt_coe, if_neg (not_lt.2 (by positivity)), if_neg (by positivity)]

/-- A nonnegative real number distributes over a finite sum. -/
theorem mul_sum_real {ι : Type} (S : Finset ι) (r : ℝ) (hr : 0 ≤ r) (f : ι → EReal) : (r : EReal) * ∑ e ∈ S, f e = ∑ e ∈ S, (r : EReal) * f e := by
  classical
  induction S using Finset.induction_on with
  | empty => simp
  | insert a S ha ih =>
    rw [Finset.sum_insert ha, Finset.sum_insert ha, EReal.left_distrib_of_nonneg_of_ne_top (by exact_mod_cast hr) (EReal.coe_ne_top r), ih]

/-- The two spellings of a convolution agree when no destination word is negative. -/
theorem gcnLoops_withLoops {s d : Fin 800000 → BitVec 32} (hd : ∀ e, 0 ≤ (d e).toInt) (X : Fin 50000 → EReal) (b : EReal) (n : Fin 50000) :
    gcnLoops (withLoops s) (withLoops d) X b n = gcn s d X b n := by
  obtain ⟨r, hr, hrn⟩ := dinv_real d n
  unfold gcnLoops gcn
  simp only [dinvLoops_withLoops hd]
  refine congrArg (· + b) ?_
  rw [sum_withLoops, hrn, EReal.left_distrib_of_nonneg_of_ne_top (by exact_mod_cast hr) (EReal.coe_ne_top r), mul_sum_real _ r hr, ← hrn]
  refine congrArg₂ (· + ·) ?_ ?_
  · refine Finset.sum_congr rfl fun e _ => ?_
    rw [withLoops_edge, withLoops_edge]
    by_cases h : (d e).toInt = (n.val : Int)
    · rw [if_pos h, if_pos h, node_of_toInt h, ← mul_assoc, mul_comm]
    · rw [if_neg h, if_neg h, mul_zero]
  · rw [Finset.sum_eq_single n]
    · rw [withLoops_loop, withLoops_loop, if_pos (loop_toInt n), node_of_toInt (loop_toInt n), ← mul_assoc, mul_comm]
    · intro q _ hq
      rw [withLoops_loop, if_neg]
      rw [loop_toInt]
      intro h
      exact hq (Fin.ext (by omega))
    · intro h
      exact absurd (Finset.mem_univ n) h

end Cert.EdgeScore

end
-- ==== Proof.KernelRead.lean ====
/- The kernel's host arrays read at an index: the factors, the convolutions, the feature rows, the packed weights. -/
module

public import proofs.«01_k».proof.Proof.KernelHost
public import proofs.«01_k».proof.Proof.Graph

@[expose] public section

set_option maxRecDepth 16384

noncomputable section

namespace Cert.EdgeScore

open Cert.KernelIdeal Cert.KernelIdeal.Gen Cert.KernelIdeal.Net Idealize.ShloMosaic Idealize.ShloMosaic.TcCoe

/-! ## The scatters and gathers of the host program -/

/-- The degree scatter at a node. -/
theorem scatterVec_at (x : FVec Ideal S50000 .f32) (idx : IVec S800000x1 32) (u : FVec Ideal S800000 .f32) (n : Fin 50000) :
    (Host.scatterAdd scatter_S50000_S800000x1_S800000_n_0_0_1 x idx u (ix1 n) : EReal)
      = x (ix1 n) + ∑ r : Fin 800000, if (idx (ix2 r (0 : Fin 1))).toInt = (n.val : Int) then (u (ix1 r) : EReal) else 0 :=
  scatter_vec (N := 50000) (R := 800000) scatter_S50000_S800000x1_S800000_n_0_0_1.wf _ rfl x idx u n

/-- The row scatter of 64 columns at a node. -/
theorem scatter64_at (x : FVec Ideal S50000x64 .f32) (idx : IVec S800000x1 32) (u : FVec Ideal S800000x64 .f32) (n : Fin 50000) (j : Fin 64) :
    (Host.scatterAdd scatter_S50000x64_S800000x1_S800000x64_1_0_0_1 x idx u (ix2 n j) : EReal)
      = x (ix2 n j) + ∑ r : Fin 800000, if (idx (ix2 r (0 : Fin 1))).toInt = (n.val : Int) then (u (ix2 r j) : EReal) else 0 :=
  scatter_rows (N := 50000) (C := 64) (R := 800000) scatter_S50000x64_S800000x1_S800000x64_1_0_0_1.wf _ rfl x idx u n j

/-- The row scatter of 32 columns at a node. -/
theorem scatter32_at (x : FVec Ideal S50000x32 .f32) (idx : IVec S800000x1 32) (u : FVec Ideal S800000x32 .f32) (n : Fin 50000) (j : Fin 32) :
    (Host.scatterAdd scatter_S50000x32_S800000x1_S800000x32_1_0_0_1 x idx u (ix2 n j) : EReal)
      = x (ix2 n j) + ∑ r : Fin 800000, if (idx (ix2 r (0 : Fin 1))).toInt = (n.val : Int) then (u (ix2 r j) : EReal) else 0 :=
  scatter_rows (N := 50000) (C := 32) (R := 800000) scatter_S50000x32_S800000x1_S800000x32_1_0_0_1.wf _ rfl x idx u n j

/-- The row gather of 64 columns at an edge. -/
theorem gather64_at (x : FVec Ideal S50000x64 .f32) (idx : IVec S800000x1 32) (e : Fin 800000) (j : Fin 64) :
    (Host.gather gather_S50000x64_S800000x1_S800000x64_1_0_n_n_0_1_164 x idx (ix2 e j) : EReal) = x (ix2 (clampRow (show 0 < 50000 by decide) (idx (ix2 e (0 : Fin 1)))) j) :=
  gather_rows (N := 50000) (C := 64) (R := 800000) _ gather_S50000x64_S800000x1_S800000x64_1_0_n_n_0_1_164.wf _ rfl x idx e j

/-- The row gather of 32 columns at an edge. -/
theorem gather32_at (x : FVec Ideal S50000x32 .f32) (idx : IVec S800000x1 32) (e : Fin 800000) (j : Fin 32) :
    (Host.gather gather_S50000x32_S800000x1_S800000x32_1_0_n_n_0_1_132 x idx (ix2 e j) : EReal) = x (ix2 (clampRow (show 0 < 50000 by decide) (idx (ix2 e (0 : Fin 1)))) j) :=
  gather_rows (N := 50000) (C := 32) (R := 800000) _ gather_S50000x32_S800000x1_S800000x32_1_0_n_n_0_1_132.wf _ rfl x idx e j

/-- The row gather of 48 columns at an edge. -/
theorem gather48_at (x : FVec Ideal S50000x48 .f32) (idx : IVec S800000x1 32) (e : Fin 800000) (j : Fin 48) :
    (Host.gather gather_S50000x48_S800000x1_S800000x48_1_0_n_n_0_1_148 x idx (ix2 e j) : EReal) = x (ix2 (clampRow (show 0 < 50000 by decide) (idx (ix2 e (0 : Fin 1)))) j) :=
  gather_rows (N := 50000) (C := 48) (R := 800000) _ gather_S50000x48_S800000x1_S800000x48_1_0_n_n_0_1_148.wf _ rfl x idx e j

/-! ## The arrays -/

/-- A wrapped column at an edge. -/
theorem wrapCol_at (w : IVec S800000 32) (e : Fin 800000) : wrapCol w (ix2 e 0) = wrapWord (w (ix1 e)) := by
  unfold wrapCol wrapWord
  pointwise

/-- The row a wrapped column names. -/
theorem node_at (w : IVec S800000 32) (e : Fin 800000) : clampRow (show 0 < 50000 by decide) (wrapCol w (ix2 e 0)) = node (w (ix1 e)) := by
  rw [wrapCol_at]
  rfl

/-- The factors, of any degrees. -/
theorem factor_at (T : FVec Ideal S50000 .f32) (n : Fin 50000) :
    (broadcastInDim S50000x1 ![0] bcast_S50000_S50000x1_0
      (Host.rsqrt (addf (broadcastInDim S50000 ![] bcast_S_S50000 (constant S_ .f32 0x3F800000#32)) T)) (ix2 n 0) : EReal) = Ideal.rsqrt (1 + T (ix1 n)) := by
  pointwise

/-- The degrees, the loop not counted. -/
theorem count_at (d : IVec S800000 32) (n : Fin 50000) :
    (Host.scatterAdd (F := Ideal) scatter_S50000_S800000x1_S800000_n_0_0_1 (broadcastInDim S50000 ![] bcast_S_S50000 (constant S_ .f32 0x00000000#32)) (rawCol d)
        (broadcastInDim S800000 ![] bcast_S_S800000 (constant S_ .f32 0x3F800000#32)) (ix1 n) : EReal)
      = ∑ e, if (d (ix1 e)).toInt = (n.val : Int) then (1 : EReal) else 0 := by
  rw [scatterVec_at]
  unfold rawCol
  pointwise

/-- The factors. -/
theorem dinvCol_at (d : IVec S800000 32) (n : Fin 50000) : (dinvCol (F := Ideal) d (ix2 n 0) : EReal) = dinv (fun e => d (ix1 e)) n :=
  (factor_at _ n).trans (congrArg (fun t : EReal => Ideal.rsqrt (1 + t)) (count_at d n))

/-- A convolution of 64 columns, of any sum over the incoming edges. -/
theorem join64_at (dv : FVec Ideal S50000x1 .f32) (T X : FVec Ideal S50000x64 .f32) (b : FVec Ideal S64 .f32) (n : Fin 50000) (j : Fin 64) :
    (addf (mulf (broadcastInDim S50000x64 ![0, 1] bcast_S50000x1_S50000x64_0_1 dv)
        (addf T (mulf X (broadcastInDim S50000x64 ![0, 1] bcast_S50000x1_S50000x64_0_1 dv))))
      (broadcastInDim S50000x64 ![0, 1] bcast_S1x64_S50000x64_0_1 (broadcastInDim S1x64 ![1] bcast_S64_S1x64_1 b)) (ix2 n j) : EReal)
      = dv (ix2 n 0) * (T (ix2 n j) + X (ix2 n j) * dv (ix2 n 0)) + b (ix1 j) := by
  pointwise

/-- The sum over the incoming edges, 64 columns. -/
theorem incoming64_at (dv : FVec Ideal S50000x1 .f32) (s d : IVec S800000 32) (X : FVec Ideal S50000x64 .f32) (n : Fin 50000) (j : Fin 64) :
    (Host.scatterAdd (F := Ideal) scatter_S50000x64_S800000x1_S800000x64_1_0_0_1 (broadcastInDim S50000x64 ![] bcast_S_S50000x64 (constant S_ .f32 0x00000000#32)) (rawCol d)
        (Host.gather gather_S50000x64_S800000x1_S800000x64_1_0_n_n_0_1_164 (mulf X (broadcastInDim S50000x64 ![0, 1] bcast_S50000x1_S50000x64_0_1 dv)) (wrapCol s)) (ix2 n j) : EReal)
      = ∑ e, if (d (ix1 e)).toInt = (n.val : Int) then (X (ix2 (node (s (ix1 e))) j) * dv (ix2 (node (s (ix1 e))) 0) : EReal) else 0 := by
  rw [scatter64_at]
  simp only [gather64_at, node_at]
  unfold rawCol
  pointwise

/-- A convolution of 64 columns. -/
theorem layer64_at (s d : IVec S800000 32) (X : FVec Ideal S50000x64 .f32) (b : FVec Ideal S64 .f32) (n : Fin 50000) (j : Fin 64) :
    (layer64 (dinvCol d) s d X b (ix2 n j) : EReal)
      = gcn (fun e => s (ix1 e)) (fun e => d (ix1 e)) (fun n => X (ix2 n j)) (b (ix1 j)) n := by
  refine (join64_at (dinvCol d) _ X b n j).trans ?_
  rw [incoming64_at, dinvCol_at]
  simp only [dinvCol_at]
  rfl

/-- A convolution of 32 columns, of any sum over the incoming edges. -/
theorem join32_at (dv : FVec Ideal S50000x1 .f32) (T X : FVec Ideal S50000x32 .f32) (b : FVec Ideal S32 .f32) (n : Fin 50000) (j : Fin 32) :
    (addf (mulf (broadcastInDim S50000x32 ![0, 1] bcast_S50000x1_S50000x32_0_1 dv)
        (addf T (mulf X (broadcastInDim S50000x32 ![0, 1] bcast_S50000x1_S50000x32_0_1 dv))))
      (broadcastInDim S50000x32 ![0, 1] bcast_S1x32_S50000x32_0_1 (broadcastInDim S1x32 ![1] bcast_S32_S1x32_1 b)) (ix2 n j) : EReal)
      = dv (ix2 n 0) * (T (ix2 n j) + X (ix2 n j) * dv (ix2 n 0)) + b (ix1 j) := by
  pointwise

/-- The sum over the incoming edges, 32 columns. -/
theorem incoming32_at (dv : FVec Ideal S50000x1 .f32) (s d : IVec S800000 32) (X : FVec Ideal S50000x32 .f32) (n : Fin 50000) (j : Fin 32) :
    (Host.scatterAdd (F := Ideal) scatter_S50000x32_S800000x1_S800000x32_1_0_0_1 (broadcastInDim S50000x32 ![] bcast_S_S50000x32 (constant S_ .f32 0x00000000#32)) (rawCol d)
        (Host.gather gather_S50000x32_S800000x1_S800000x32_1_0_n_n_0_1_132 (mulf X (broadcastInDim S50000x32 ![0, 1] bcast_S50000x1_S50000x32_0_1 dv)) (wrapCol s)) (ix2 n j) : EReal)
      = ∑ e, if (d (ix1 e)).toInt = (n.val : Int) then (X (ix2 (node (s (ix1 e))) j) * dv (ix2 (node (s (ix1 e))) 0) : EReal) else 0 := by
  rw [scatter32_at]
  simp only [gather32_at, node_at]
  unfold rawCol
  pointwise

/-- A convolution of 32 columns. -/
theorem layer32_at (s d : IVec S800000 32) (X : FVec Ideal S50000x32 .f32) (b : FVec Ideal S32 .f32) (n : Fin 50000) (j : Fin 32) :
    (layer32 (dinvCol d) s d X b (ix2 n j) : EReal)
      = gcn (fun e => s (ix1 e)) (fun e => d (ix1 e)) (fun n => X (ix2 n j)) (b (ix1 j)) n := by
  refine (join32_at (dinvCol d) _ X b n j).trans ?_
  rw [incoming32_at, dinvCol_at]
  simp only [dinvCol_at]
  rfl

/-- The points' coordinates but the first. -/
theorem rest_at (z : FVec Ideal S50000x17 .f32) (n : Fin 50000) (k : Fin 16) : (rest z (ix2 n k) : EReal) = z (ix2 n ⟨1 + k.val, by omega⟩) := by
  unfold rest
  pointwise

/-- An edge's feature row, in the network's columns. -/
theorem pick_net (g : FVec Ideal S50000x32 .f32) (v : FVec Ideal S50000x16 .f32) (w : IVec S800000 32) (e : Fin 800000) (k : Fin 32) :
    (pick (feat g v) w (ix2 e ⟨k.val, by omega⟩) : EReal) = g (ix2 (node (w (ix1 e))) k) := by
  unfold pick
  rw [gather48_at, node_at]
  unfold feat
  pointwise

/-- An edge's feature row, in the coordinates' columns. -/
theorem pick_rest (g : FVec Ideal S50000x32 .f32) (v : FVec Ideal S50000x16 .f32) (w : IVec S800000 32) (e : Fin 800000) (k : Fin 16) :
    (pick (feat g v) w (ix2 e ⟨32 + k.val, by omega⟩) : EReal) = v (ix2 (node (w (ix1 e))) k) := by
  unfold pick
  rw [gather48_at, node_at]
  unfold feat
  pointwise

/-- The packed first weights, left half. -/
theorem wcat_left (a b : FVec Ideal S64x64 .f32) (k l : Fin 64) : (wcat a b (ix2 k ⟨l.val, by omega⟩) : EReal) = a (ix2 k l) := by
  unfold wcat
  pointwise
/-- The packed first weights, right half. -/
theorem wcat_right (a b : FVec Ideal S64x64 .f32) (k l : Fin 64) : (wcat a b (ix2 k ⟨64 + l.val, by omega⟩) : EReal) = b (ix2 k l) := by
  unfold wcat
  pointwise
/-- The packed first biases, left half. -/
theorem bcat_left (a b : FVec Ideal S64 .f32) (l : Fin 64) : (asRow (vcat a b) (ix2 0 ⟨l.val, by omega⟩) : EReal) = a (ix1 l) := by
  unfold asRow vcat
  pointwise
/-- The packed first biases, right half. -/
theorem bcat_right (a b : FVec Ideal S64 .f32) (l : Fin 64) : (asRow (vcat a b) (ix2 0 ⟨64 + l.val, by omega⟩) : EReal) = b (ix1 l) := by
  unfold asRow vcat
  pointwise
/-- A one-column matrix laid flat. -/
theorem flat_at (a : FVec Ideal S64x1 .f32) (l : Fin 64) : (flat a (ix1 l) : EReal) = a (ix2 l 0) := by
  unfold flat
  pointwise
/-- A one-element vector as a scalar. -/
theorem scal_at (a : FVec Ideal S1 .f32) (j : S_.Idx) : (scal a j : EReal) = a (ix1 0) := by
  unfold scal
  pointwise
/-- A word as a one-element vector. -/
theorem word1_at (w : BitVec 32) : word1 w (ix1 0) = w := by
  unfold word1
  pointwise

end Cert.EdgeScore

end
-- ==== Proof.RefNet.lean ====
/- The reference's result as functions of arrays: the edge list with a loop at each node, the three convolutions over
   it, the two head networks and the score. The generated result term is these functions of the arguments. -/
module

public import proofs.«01_k».proof.Proof.Gen.ReferenceIdeal.Run

@[expose] public section

set_option maxRecDepth 16384

noncomputable section

namespace Cert.ReferenceIdeal.Net

open Cert.ReferenceIdeal Cert.ReferenceIdeal.Gen Idealize.ShloMosaic Idealize.ShloMosaic.TcCoe Idealize.ShloMosaic.StableHlo

variable {F : FTy → Type} [FloatOps F]

/-- The edges' source words. -/
def srcOf (ei : IVec S2x800000 32) : IVec S800000 32 :=
  shapeCast S800000 (extractStridedSlice S1x800000 ![0, 0] ei slices_S2x800000_S1x800000_0_0) shapeCasts_S1x800000_S800000
/-- The edges' destination words. -/
def dstOf (ei : IVec S2x800000 32) : IVec S800000 32 :=
  shapeCast S800000 (extractStridedSlice S1x800000 ![1, 0] ei slices_S2x800000_S1x800000_1_0) shapeCasts_S1x800000_S800000
/-- The edges' words as a column, a negative one counted from the table's end. -/
def wrapEdges (w : IVec S800000 32) : IVec S800000x1 32 :=
  broadcastInDim S800000x1 ![0] bcast_S800000_S800000x1_0
    (select (cmpi .slt w (broadcastInDim S800000 ![] bcast_S_S800000 (constantI S_ 32 0#32)))
      (addi w (broadcastInDim S800000 ![] bcast_S_S800000 (constantI S_ 32 50000#32))) w)
/-- The words with each node's own number after them. -/
def loops (w : IVec S800000 32) : IVec S850000 32 :=
  concatenate S850000 0 [⟨S800000, w⟩, ⟨S50000, iotaInDim S50000 32 0⟩] concatenates_S800000_S50000_S850000_d0
/-- Words as a column. -/
def rawCol (w : IVec S850000 32) : IVec S850000x1 32 := broadcastInDim S850000x1 ![0] bcast_S850000_S850000x1_0 w
/-- Words as a column, a negative one counted from the table's end. -/
def wrapCol (w : IVec S850000 32) : IVec S850000x1 32 :=
  broadcastInDim S850000x1 ![0] bcast_S850000_S850000x1_0
    (select (cmpi .slt w (broadcastInDim S850000 ![] bcast_S_S850000 (constantI S_ 32 0#32)))
      (addi w (broadcastInDim S850000 ![] bcast_S_S850000 (constantI S_ 32 50000#32))) w)
/-- The reciprocal root of each node's degree. -/
def dinvVec (d : IVec S850000 32) : FVec F S50000 .f32 :=
  Host.rsqrt (Host.scatterAdd scatter_S50000_S850000x1_S850000_n_0_0_1 (broadcastInDim S50000 ![] bcast_S_S50000 (constant S_ .f32 0x00000000#32)) (wrapCol d)
    (broadcastInDim S850000 ![] bcast_S_S850000 (constant S_ .f32 0x3F800000#32)))
/-- Each edge's weight, from the nodes' factors. -/
def normOf (v : FVec F S50000 .f32) (s d : IVec S850000 32) : FVec F S850000x1 .f32 :=
  broadcastInDim S850000x1 ![0] bcast_S850000_S850000x1_0
    (mulf (Host.gather gather_S50000_S850000x1_S850000_n_0_n_n_0_1_1 v (wrapCol s))
      (Host.gather gather_S50000_S850000x1_S850000_n_0_n_n_0_1_1 v (wrapCol d)))
/-- One convolution of 64 columns, with the edges' weights given. -/
def layer64 (w : FVec F S850000x1 .f32) (s d : IVec S850000 32) (X : FVec F S50000x64 .f32) (b : FVec F S64 .f32) : FVec F S50000x64 .f32 :=
  addf (Host.scatterAdd scatter_S50000x64_S850000x1_S850000x64_1_0_0_1 (broadcastInDim S50000x64 ![] bcast_S_S50000x64 (constant S_ .f32 0x00000000#32)) (rawCol d)
      (mulf (Host.gather gather_S50000x64_S850000x1_S850000x64_1_0_n_n_0_1_164 X (wrapCol s)) (broadcastInDim S850000x64 ![0, 1] bcast_S850000x1_S850000x64_0_1 w)))
    (broadcastInDim S50000x64 ![0, 1] bcast_S1x64_S50000x64_0_1 (broadcastInDim S1x64 ![1] bcast_S64_S1x64_1 b))
/-- One convolution of 32 columns, with the edges' weights given. -/
def layer32 (w : FVec F S850000x1 .f32) (s d : IVec S850000 32) (X : FVec F S50000x32 .f32) (b : FVec F S32 .f32) : FVec F S50000x32 .f32 :=
  addf (Host.scatterAdd scatter_S50000x32_S850000x1_S850000x32_1_0_0_1 (broadcastInDim S50000x32 ![] bcast_S_S50000x32 (constant S_ .f32 0x00000000#32)) (rawCol d)
      (mulf (Host.gather gather_S50000x32_S850000x1_S850000x32_1_0_n_n_0_1_132 X (wrapCol s)) (broadcastInDim S850000x32 ![0, 1] bcast_S850000x1_S850000x32_0_1 w)))
    (broadcastInDim S50000x32 ![0, 1] bcast_S1x32_S50000x32_0_1 (broadcastInDim S1x32 ![1] bcast_S32_S1x32_1 b))
/-- The points' first coordinate. -/
def lead (z : FVec F S50000x17 .f32) : FVec F S50000x1 .f32 := extractStridedSlice S50000x1 ![0, 0] z slices_S50000x17_S50000x1_0_0
/-- The points' other coordinates. -/
def rest (z : FVec F S50000x17 .f32) : FVec F S50000x16 .f32 := extractStridedSlice S50000x16 ![0, 1] z slices_S50000x17_S50000x16_0_1
/-- The first coordinate kept from below. -/
def alpha (z : FVec F S50000x17 .f32) : FVec F S50000x1 .f32 :=
  maximumf (Host.divf (lead z) (broadcastInDim S50000x1 ![] bcast_S_S50000x1 (constant S_ .f32 0x3F800000#32)))
    (broadcastInDim S50000x1 ![] bcast_S_S50000x1 (constant S_ .f32 0x3F800001#32))
/-- The encoded points, projected by the first weights, from the kept first coordinate `a`. -/
def encOf (a l : FVec F S50000x1 .f32) (v : FVec F S50000x16 .f32) (W : FVec F S17x64 .f32) : FVec F S50000x64 .f32 :=
  Host.dotGeneral dot_S50000x17_S17x64_S50000x64_1_0_0_1_n_n none
    (mulf (broadcastInDim S50000x17 ![0, 1] bcast_S50000x1_S50000x17_0_1
        (Host.divf (Host.acosh a) (Host.sqrt (subf (mulf a a) (broadcastInDim S50000x1 ![] bcast_S_S50000x1 (constant S_ .f32 0x3F800000#32))))))
      (concatenate S50000x17 1 [⟨S50000x1, subf l (mulf a (broadcastInDim S50000x1 ![] bcast_S_S50000x1 (constant S_ .f32 0x3F800000#32)))⟩, ⟨S50000x16, v⟩]
        concatenates_S50000x1_S50000x16_S50000x17_d1)) W
/-- The rectifier. -/
def relu (X : FVec F S50000x64 .f32) : FVec F S50000x64 .f32 := maximumf X (broadcastInDim S50000x64 ![] bcast_S_S50000x64 (constant S_ .f32 0x00000000#32))
/-- The projection by the second weights. -/
def proj2 (X : FVec F S50000x64 .f32) (W : FVec F S64x64 .f32) : FVec F S50000x64 .f32 := Host.dotGeneral dot_S50000x64_S64x64_S50000x64_1_0_0_1_n_n none X W
/-- The projection by the third weights. -/
def proj3 (X : FVec F S50000x64 .f32) (W : FVec F S64x32 .f32) : FVec F S50000x32 .f32 := Host.dotGeneral dot_S50000x64_S64x32_S50000x32_1_0_0_1_n_n none X W
/-- The three convolutions, over words `s` and `d` with their loops and edge weights `w`. -/
def netOf (w : FVec F S850000x1 .f32) (s d : IVec S850000 32) (X : FVec F S50000x64 .f32) (b1 : FVec F S64 .f32) (W2 : FVec F S64x64 .f32) (b2 : FVec F S64 .f32)
    (W3 : FVec F S64x32 .f32) (b3 : FVec F S32 .f32) : FVec F S50000x32 .f32 :=
  layer32 w s d (proj3 (relu (layer64 w s d (proj2 (relu (layer64 w s d X b1)) W2) b2)) W3) b3
/-- The edge weights of an edge list. -/
def weights (ei : IVec S2x800000 32) : FVec F S850000x1 .f32 := normOf (dinvVec (loops (dstOf ei))) (loops (srcOf ei)) (loops (dstOf ei))
/-- The network's output on the node table. -/
def net (z : FVec F S50000x17 .f32) (ei : IVec S2x800000 32) (W1 : FVec F S17x64 .f32) (b1 : FVec F S64 .f32) (W2 : FVec F S64x64 .f32) (b2 : FVec F S64 .f32)
    (W3 : FVec F S64x32 .f32) (b3 : FVec F S32 .f32) : FVec F S50000x32 .f32 :=
  netOf (weights ei) (loops (srcOf ei)) (loops (dstOf ei)) (encOf (alpha z) (lead z) (rest z) W1) b1 W2 b2 W3 b3
/-- The points the words name. -/
def points (z : FVec F S50000x17 .f32) (w : IVec S800000 32) : FVec F S800000x17 .f32 :=
  Host.gather gather_S50000x17_S800000x1_S800000x17_1_0_n_n_0_1_117 z (wrapEdges w)
/-- The network rows the words name. -/
def pick (g : FVec F S50000x32 .f32) (w : IVec S800000 32) : FVec F S800000x32 .f32 :=
  Host.gather gather_S50000x32_S800000x1_S800000x32_1_0_n_n_0_1_132 g (wrapEdges w)
/-- A head's hidden layer, from the two endpoints' network rows. -/
def hiddenOf (a b : FVec F S800000x32 .f32) (W : FVec F S64x64 .f32) (c : FVec F S64 .f32) : FVec F S800000x64 .f32 :=
  addf (Host.dotGeneral dot_S800000x64_S64x64_S800000x64_1_0_0_1_n_n none (concatenate S800000x64 1 [⟨S800000x32, a⟩, ⟨S800000x32, b⟩] concatenates_S800000x32_S800000x32_S800000x64_d1) W)
    (broadcastInDim S800000x64 ![0, 1] bcast_S1x64_S800000x64_0_1 (broadcastInDim S1x64 ![1] bcast_S64_S1x64_1 c))
/-- A head's output, from its hidden layer. -/
def head (h : FVec F S800000x64 .f32) (w : FVec F S64x1 .f32) (c : FVec F S1 .f32) : FVec F S800000 .f32 :=
  shapeCast S800000 (addf (Host.dotGeneral dot_S800000x64_S64x1_S800000x1_1_0_0_1_n_n none
      (select (cmpf .oge h (broadcastInDim S800000x64 ![] bcast_S_S800000x64 (constant S_ .f32 0x00000000#32))) h
        (mulf (broadcastInDim S800000x64 ![] bcast_S_S800000x64 (id (constant S_ .f32 0x3E4CCCCD#32))) h)) w)
    (broadcastInDim S800000x1 ![0, 1] bcast_S1x1_S800000x1_0_1 (broadcastInDim S1x1 ![1] bcast_S1_S1x1_1 c))) shapeCasts_S800000x1_S800000
/-- Minus the distance of the points of two lists. -/
def distOf (a b : FVec F S800000x17 .f32) : FVec F S800000 .f32 :=
  mulf (broadcastInDim S800000 ![] bcast_S_S800000 (constant S_ .f32 0xBF800000#32)) (mulf (broadcastInDim S800000 ![] bcast_S_S800000 (constant S_ .f32 0x3F800000#32))
    (Host.acosh (maximumf (Host.divf (Host.negf (addf
        (mulf (Host.negf (shapeCast S800000 (extractStridedSlice S800000x1 ![0, 0] a slices_S800000x17_S800000x1_0_0) shapeCasts_S800000x1_S800000))
          (shapeCast S800000 (extractStridedSlice S800000x1 ![0, 0] b slices_S800000x17_S800000x1_0_0) shapeCasts_S800000x1_S800000))
        (Host.reduceAdd (mulf (extractStridedSlice S800000x16 ![0, 1] a slices_S800000x17_S800000x16_0_1) (extractStridedSlice S800000x16 ![0, 1] b slices_S800000x17_S800000x16_0_1))
          (constant S_ .f32 0x00000000#32) reducesTo_S800000x16_S800000_d1 h_S_)))
      (broadcastInDim S800000 ![] bcast_S_S800000 (constant S_ .f32 0x3F800000#32))) (broadcastInDim S800000 ![] bcast_S_S800000 (constant S_ .f32 0x3F800001#32)))))
/-- The score, in the result's layout. -/
def score (x r t : FVec F S800000 .f32) : FVec F S80x1x10000 .f32 :=
  shapeCast S80x1x10000 (Host.divf (broadcastInDim S800000 ![] bcast_S_S800000 (constant S_ .f32 0x3F800000#32))
    (addf (broadcastInDim S800000 ![] bcast_S_S800000 (constant S_ .f32 0x3F800000#32)) (Host.exp (Host.negf (Host.divf (subf x r) t))))) shapeCasts_S800000_S80x1x10000

section closed
variable (V0 : Valuation τ sig (Elt F))

/-- The network's output in the generated term. -/
theorem net_eq : Value.res_main_v139 V0 = net (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6)) (V0 (Proc.devRef .tc main_arg7)) := rfl

/-- The first head's hidden layer in the generated term. -/
theorem hidden_r : Value.res_main_v181 V0 = hiddenOf (pick (Value.res_main_v139 V0) (srcOf (V0 (Proc.devRef .tc main_arg1)))) (pick (Value.res_main_v139 V0) (dstOf (V0 (Proc.devRef .tc main_arg1))))
    (V0 (Proc.devRef .tc main_arg8)) (V0 (Proc.devRef .tc main_arg9)) := rfl

/-- The second head's hidden layer in the generated term. -/
theorem hidden_t : Value.res_main_v191 V0 = hiddenOf (pick (Value.res_main_v139 V0) (srcOf (V0 (Proc.devRef .tc main_arg1)))) (pick (Value.res_main_v139 V0) (dstOf (V0 (Proc.devRef .tc main_arg1))))
    (V0 (Proc.devRef .tc main_arg12)) (V0 (Proc.devRef .tc main_arg13)) := rfl

/-- The points of the edges' sources in the generated term. -/
theorem points_src : Value.res_main_v26 V0 = points (V0 (Proc.devRef .tc main_arg0)) (srcOf (V0 (Proc.devRef .tc main_arg1))) := rfl

/-- The points of the edges' destinations in the generated term. -/
theorem points_dst : Value.res_main_v35 V0 = points (V0 (Proc.devRef .tc main_arg0)) (dstOf (V0 (Proc.devRef .tc main_arg1))) := rfl

end closed

/-- The reference's result as a function of its arguments. -/
def resultOf (z : FVec F S50000x17 .f32) (ei : IVec S2x800000 32) (g : FVec F S50000x32 .f32) (Wr : FVec F S64x64 .f32) (br : FVec F S64 .f32) (wr : FVec F S64x1 .f32) (cr : FVec F S1 .f32)
    (Wt : FVec F S64x64 .f32) (bt : FVec F S64 .f32) (wt : FVec F S64x1 .f32) (ct : FVec F S1 .f32) : FVec F S80x1x10000 .f32 :=
  score (distOf (points z (srcOf ei)) (points z (dstOf ei)))
    (head (hiddenOf (pick g (srcOf ei)) (pick g (dstOf ei)) Wr br) wr cr)
    (head (hiddenOf (pick g (srcOf ei)) (pick g (dstOf ei)) Wt bt) wt ct)

end Cert.ReferenceIdeal.Net

end
-- ==== Proof.RefRead.lean ====
/- The reference's convolutions read at an index: sums over the edge list with a loop at each node. -/
module

public import proofs.«01_k».proof.Proof.RefNet
public import proofs.«01_k».proof.Proof.Graph

@[expose] public section

set_option maxRecDepth 16384

noncomputable section

namespace Cert.EdgeScore.Ref

open Cert.ReferenceIdeal Cert.ReferenceIdeal.Gen Cert.ReferenceIdeal.Net Idealize.ShloMosaic Idealize.ShloMosaic.TcCoe

/-! ## The scatters and gathers over the list with loops -/

/-- The degree scatter at a node. -/
theorem scatterVec_at (x : FVec Ideal S50000 .f32) (idx : IVec S850000x1 32) (u : FVec Ideal S850000 .f32) (n : Fin 50000) :
    (Host.scatterAdd scatter_S50000_S850000x1_S850000_n_0_0_1 x idx u (ix1 n) : EReal)
      = x (ix1 n) + ∑ r : Fin 850000, if (idx (ix2 r (0 : Fin 1))).toInt = (n.val : Int) then (u (ix1 r) : EReal) else 0 :=
  scatter_vec (N := 50000) (R := 850000) scatter_S50000_S850000x1_S850000_n_0_0_1.wf _ rfl x idx u n

/-- The row scatter of 64 columns at a node. -/
theorem scatter64_at (x : FVec Ideal S50000x64 .f32) (idx : IVec S850000x1 32) (u : FVec Ideal S850000x64 .f32) (n : Fin 50000) (j : Fin 64) :
    (Host.scatterAdd scatter_S50000x64_S850000x1_S850000x64_1_0_0_1 x idx u (ix2 n j) : EReal)
      = x (ix2 n j) + ∑ r : Fin 850000, if (idx (ix2 r (0 : Fin 1))).toInt = (n.val : Int) then (u (ix2 r j) : EReal) else 0 :=
  scatter_rows (N := 50000) (C := 64) (R := 850000) scatter_S50000x64_S850000x1_S850000x64_1_0_0_1.wf _ rfl x idx u n j

/-- The row scatter of 32 columns at a node. -/
theorem scatter32_at (x : FVec Ideal S50000x32 .f32) (idx : IVec S850000x1 32) (u : FVec Ideal S850000x32 .f32) (n : Fin 50000) (j : Fin 32) :
    (Host.scatterAdd scatter_S50000x32_S850000x1_S850000x32_1_0_0_1 x idx u (ix2 n j) : EReal)
      = x (ix2 n j) + ∑ r : Fin 850000, if (idx (ix2 r (0 : Fin 1))).toInt = (n.val : Int) then (u (ix2 r j) : EReal) else 0 :=
  scatter_rows (N := 50000) (C := 32) (R := 850000) scatter_S50000x32_S850000x1_S850000x32_1_0_0_1.wf _ rfl x idx u n j

/-- The row gather of 64 columns at an edge. -/
theorem gather64_at (x : FVec Ideal S50000x64 .f32) (idx : IVec S850000x1 32) (e : Fin 850000) (j : Fin 64) :
    (Host.gather gather_S50000x64_S850000x1_S850000x64_1_0_n_n_0_1_164 x idx (ix2 e j) : EReal) = x (ix2 (clampRow (show 0 < 50000 by decide) (idx (ix2 e (0 : Fin 1)))) j) :=
  gather_rows (N := 50000) (C := 64) (R := 850000) _ gather_S50000x64_S850000x1_S850000x64_1_0_n_n_0_1_164.wf _ rfl x idx e j

/-- The row gather of 32 columns at an edge. -/
theorem gather32_at (x : FVec Ideal S50000x32 .f32) (idx : IVec S850000x1 32) (e : Fin 850000) (j : Fin 32) :
    (Host.gather gather_S50000x32_S850000x1_S850000x32_1_0_n_n_0_1_132 x idx (ix2 e j) : EReal) = x (ix2 (clampRow (show 0 < 50000 by decide) (idx (ix2 e (0 : Fin 1)))) j) :=
  gather_rows (N := 50000) (C := 32) (R := 850000) _ gather_S50000x32_S850000x1_S850000x32_1_0_n_n_0_1_132.wf _ rfl x idx e j

/-- The factor gather at an edge. -/
theorem gatherVec_at (x : FVec Ideal S50000 .f32) (idx : IVec S850000x1 32) (e : Fin 850000) :
    (Host.gather gather_S50000_S850000x1_S850000_n_0_n_n_0_1_1 x idx (ix1 e) : EReal) = x (ix1 (clampRow (show 0 < 50000 by decide) (idx (ix2 e (0 : Fin 1))))) :=
  gather_vec (N := 50000) (R := 850000) (by decide) gather_S50000_S850000x1_S850000_n_0_n_n_0_1_1 rfl rfl rfl rfl x idx e

/-- The point gather at an edge. -/
theorem gather17_at (x : FVec Ideal S50000x17 .f32) (idx : IVec S800000x1 32) (e : Fin 800000) (j : Fin 17) :
    (Host.gather gather_S50000x17_S800000x1_S800000x17_1_0_n_n_0_1_117 x idx (ix2 e j) : EReal) = x (ix2 (clampRow (show 0 < 50000 by decide) (idx (ix2 e (0 : Fin 1)))) j) :=
  gather_rows (N := 50000) (C := 17) (R := 800000) _ gather_S50000x17_S800000x1_S800000x17_1_0_n_n_0_1_117.wf _ rfl x idx e j

/-- The network row gather at an edge. -/
theorem gatherNet_at (x : FVec Ideal S50000x32 .f32) (idx : IVec S800000x1 32) (e : Fin 800000) (j : Fin 32) :
    (Host.gather gather_S50000x32_S800000x1_S800000x32_1_0_n_n_0_1_132 x idx (ix2 e j) : EReal) = x (ix2 (clampRow (show 0 < 50000 by decide) (idx (ix2 e (0 : Fin 1)))) j) :=
  gather_rows (N := 50000) (C := 32) (R := 800000) _ gather_S50000x32_S800000x1_S800000x32_1_0_n_n_0_1_132.wf _ rfl x idx e j

/-! ## The arrays -/

/-- A wrapped column at an edge of the list with loops. -/
theorem wrapCol_at (w : IVec S850000 32) (e : Fin 850000) : wrapCol w (ix2 e 0) = wrapWord (w (ix1 e)) := by
  unfold wrapCol wrapWord
  pointwise

/-- The row a wrapped column names. -/
theorem node_at (w : IVec S850000 32) (e : Fin 850000) : clampRow (show 0 < 50000 by decide) (wrapCol w (ix2 e 0)) = node (w (ix1 e)) := by
  rw [wrapCol_at]
  rfl

/-- A wrapped column at an edge. -/
theorem wrapEdges_at (w : IVec S800000 32) (e : Fin 800000) : wrapEdges w (ix2 e 0) = wrapWord (w (ix1 e)) := by
  unfold wrapEdges wrapWord
  pointwise

/-- The row a wrapped column of the edges names. -/
theorem nodeEdges_at (w : IVec S800000 32) (e : Fin 800000) : clampRow (show 0 < 50000 by decide) (wrapEdges w (ix2 e 0)) = node (w (ix1 e)) := by
  rw [wrapEdges_at]
  rfl

/-- A raw column at an edge of the list with loops. -/
theorem rawCol_at (w : IVec S850000 32) (e : Fin 850000) : rawCol w (ix2 e 0) = w (ix1 e) := by
  unfold rawCol
  pointwise

/-- The list with loops, at one of its edges. -/
theorem loops_edge (w : IVec S800000 32) (e : Fin 800000) : loops w (ix1 ⟨e.val, by omega⟩) = w (ix1 e) := by
  unfold loops
  pointwise

/-- The list with loops, at one of its loops. -/
theorem loops_loop (w : IVec S800000 32) (n : Fin 50000) : loops w (ix1 ⟨800000 + n.val, by omega⟩) = BitVec.ofNat 32 n.val := by
  unfold loops
  pointwise

/-- The list with loops, at any place. -/
theorem loops_at (w : IVec S800000 32) (i : Fin 850000) : loops w (ix1 i) = withLoops (fun e => w (ix1 e)) i := by
  by_cases h : i.val < 800000
  · exact (loops_edge w ⟨i.val, h⟩).trans (withLoops_edge (fun e => w (ix1 e)) ⟨i.val, h⟩).symm
  · have e : i = ⟨800000 + (⟨i.val - 800000, by omega⟩ : Fin 50000).val, by have := i.isLt; show 800000 + (i.val - 800000) < 850000; omega⟩ :=
      Fin.ext (by show i.val = 800000 + (i.val - 800000); omega)
    rw [e]
    exact (loops_loop w _).trans (withLoops_loop (fun e => w (ix1 e)) _).symm

/-- The degrees. -/
theorem count_at (d : IVec S850000 32) (n : Fin 50000) :
    (Host.scatterAdd (F := Ideal) scatter_S50000_S850000x1_S850000_n_0_0_1 (broadcastInDim S50000 ![] bcast_S_S50000 (constant S_ .f32 0x00000000#32)) (wrapCol d)
        (broadcastInDim S850000 ![] bcast_S_S850000 (constant S_ .f32 0x3F800000#32)) (ix1 n) : EReal)
      = ∑ i, if (wrapWord (d (ix1 i))).toInt = (n.val : Int) then (1 : EReal) else 0 := by
  rw [scatterVec_at]
  simp only [wrapCol_at]
  pointwise

/-- The factors, of any degrees. -/
theorem factor_at (T : FVec Ideal S50000 .f32) (n : Fin 50000) : (Host.rsqrt T (ix1 n) : EReal) = Ideal.rsqrt (T (ix1 n)) := by
  pointwise

/-- The factors. -/
theorem dinvVec_at (d : IVec S850000 32) (n : Fin 50000) : (dinvVec (F := Ideal) d (ix1 n) : EReal) = dinvLoops (fun i => d (ix1 i)) n :=
  (factor_at _ n).trans (congrArg Ideal.rsqrt (count_at d n))

/-- An edge's weight, of any two lists of factors. -/
theorem weight_at (A B : FVec Ideal S850000 .f32) (i : Fin 850000) :
    (broadcastInDim S850000x1 ![0] bcast_S850000_S850000x1_0 (mulf A B) (ix2 i 0) : EReal) = A (ix1 i) * B (ix1 i) := by
  pointwise

/-- An edge's weight. -/
theorem normOf_at (v : FVec Ideal S50000 .f32) (s d : IVec S850000 32) (i : Fin 850000) :
    (normOf v s d (ix2 i 0) : EReal) = v (ix1 (node (s (ix1 i)))) * v (ix1 (node (d (ix1 i)))) := by
  unfold normOf
  rw [weight_at, gatherVec_at, gatherVec_at, node_at, node_at]

/-- A convolution of 64 columns, of any sum over the list. -/
theorem join64_at (T : FVec Ideal S50000x64 .f32) (b : FVec Ideal S64 .f32) (n : Fin 50000) (j : Fin 64) :
    (addf T (broadcastInDim S50000x64 ![0, 1] bcast_S1x64_S50000x64_0_1 (broadcastInDim S1x64 ![1] bcast_S64_S1x64_1 b)) (ix2 n j) : EReal)
      = T (ix2 n j) + b (ix1 j) := by
  pointwise

/-- A weighted row of the list, 64 columns. -/
theorem weighted64_at (G : FVec Ideal S850000x64 .f32) (w : FVec Ideal S850000x1 .f32) (i : Fin 850000) (j : Fin 64) :
    (mulf G (broadcastInDim S850000x64 ![0, 1] bcast_S850000x1_S850000x64_0_1 w) (ix2 i j) : EReal) = G (ix2 i j) * w (ix2 i 0) := by
  pointwise

/-- The zeros a convolution of 64 columns starts from. -/
theorem zero64_at (n : Fin 50000) (j : Fin 64) : (broadcastInDim S50000x64 ![] bcast_S_S50000x64 (constant (F := Ideal) S_ .f32 0x00000000#32) (ix2 n j) : EReal) = 0 := by
  pointwise

/-- A convolution of 64 columns. -/
theorem layer64_at (s d : IVec S850000 32) (X : FVec Ideal S50000x64 .f32) (b : FVec Ideal S64 .f32) (n : Fin 50000) (j : Fin 64) :
    (layer64 (normOf (dinvVec d) s d) s d X b (ix2 n j) : EReal)
      = gcnLoops (fun i => s (ix1 i)) (fun i => d (ix1 i)) (fun n => X (ix2 n j)) (b (ix1 j)) n := by
  refine (join64_at _ b n j).trans ?_
  rw [scatter64_at, zero64_at, zero_add]
  unfold gcnLoops
  refine congrArg (fun t : EReal => t + b (ix1 j)) (Finset.sum_congr rfl fun i _ => ?_)
  rw [rawCol_at]
  refine if_congr Iff.rfl ((weighted64_at _ _ i j).trans ?_) rfl
  rw [gather64_at, normOf_at, dinvVec_at, dinvVec_at, node_at]

/-- A convolution of 32 columns, of any sum over the list. -/
theorem join32_at (T : FVec Ideal S50000x32 .f32) (b : FVec Ideal S32 .f32) (n : Fin 50000) (j : Fin 32) :
    (addf T (broadcastInDim S50000x32 ![0, 1] bcast_S1x32_S50000x32_0_1 (broadcastInDim S1x32 ![1] bcast_S32_S1x32_1 b)) (ix2 n j) : EReal)
      = T (ix2 n j) + b (ix1 j) := by
  pointwise

/-- A weighted row of the list, 32 columns. -/
theorem weighted32_at (G : FVec Ideal S850000x32 .f32) (w : FVec Ideal S850000x1 .f32) (i : Fin 850000) (j : Fin 32) :
    (mulf G (broadcastInDim S850000x32 ![0, 1] bcast_S850000x1_S850000x32_0_1 w) (ix2 i j) : EReal) = G (ix2 i j) * w (ix2 i 0) := by
  pointwise

/-- The zeros a convolution of 32 columns starts from. -/
theorem zero32_at (n : Fin 50000) (j : Fin 32) : (broadcastInDim S50000x32 ![] bcast_S_S50000x32 (constant (F := Ideal) S_ .f32 0x00000000#32) (ix2 n j) : EReal) = 0 := by
  pointwise

/-- A convolution of 32 columns. -/
theorem layer32_at (s d : IVec S850000 32) (X : FVec Ideal S50000x32 .f32) (b : FVec Ideal S32 .f32) (n : Fin 50000) (j : Fin 32) :
    (layer32 (normOf (dinvVec d) s d) s d X b (ix2 n j) : EReal)
      = gcnLoops (fun i => s (ix1 i)) (fun i => d (ix1 i)) (fun n => X (ix2 n j)) (b (ix1 j)) n := by
  refine (join32_at _ b n j).trans ?_
  rw [scatter32_at, zero32_at, zero_add]
  unfold gcnLoops
  refine congrArg (fun t : EReal => t + b (ix1 j)) (Finset.sum_congr rfl fun i _ => ?_)
  rw [rawCol_at]
  refine if_congr Iff.rfl ((weighted32_at _ _ i j).trans ?_) rfl
  rw [gather32_at, normOf_at, dinvVec_at, dinvVec_at, node_at]

end Cert.EdgeScore.Ref

end
-- ==== Proof.NetAgree.lean ====
/- The two programs' graph networks agree when no destination word is negative. -/
module

public import proofs.«01_k».proof.Proof.KernelRead
public import proofs.«01_k».proof.Proof.RefRead

@[expose] public section

set_option maxRecDepth 16384

noncomputable section

namespace Cert.EdgeScore

open Cert.KernelIdeal Idealize.ShloMosaic

/-- A convolution of 64 columns, the same in both programs. -/
theorem layer64_agree {s d : IVec S800000 32} (hd : ∀ e : Fin 800000, 0 ≤ (d (ix1 e)).toInt) (X : FVec Ideal S50000x64 .f32) (b : FVec Ideal S64 .f32) :
    ReferenceIdeal.Net.layer64 (ReferenceIdeal.Net.normOf (ReferenceIdeal.Net.dinvVec (ReferenceIdeal.Net.loops d)) (ReferenceIdeal.Net.loops s) (ReferenceIdeal.Net.loops d))
        (ReferenceIdeal.Net.loops s) (ReferenceIdeal.Net.loops d) X b
      = KernelIdeal.Net.layer64 (KernelIdeal.Net.dinvCol d) s d X b := by
  funext i
  rw [eq_ix2 i]
  refine (Ref.layer64_at _ _ X b (i 0) (i 1)).trans (Eq.trans ?_ (layer64_at s d X b (i 0) (i 1)).symm)
  simp only [Ref.loops_at]
  exact gcnLoops_withLoops hd _ _ _

/-- A convolution of 32 columns, the same in both programs. -/
theorem layer32_agree {s d : IVec S800000 32} (hd : ∀ e : Fin 800000, 0 ≤ (d (ix1 e)).toInt) (X : FVec Ideal S50000x32 .f32) (b : FVec Ideal S32 .f32) :
    ReferenceIdeal.Net.layer32 (ReferenceIdeal.Net.normOf (ReferenceIdeal.Net.dinvVec (ReferenceIdeal.Net.loops d)) (ReferenceIdeal.Net.loops s) (ReferenceIdeal.Net.loops d))
        (ReferenceIdeal.Net.loops s) (ReferenceIdeal.Net.loops d) X b
      = KernelIdeal.Net.layer32 (KernelIdeal.Net.dinvCol d) s d X b := by
  funext i
  rw [eq_ix2 i]
  refine (Ref.layer32_at _ _ X b (i 0) (i 1)).trans (Eq.trans ?_ (layer32_at s d X b (i 0) (i 1)).symm)
  simp only [Ref.loops_at]
  exact gcnLoops_withLoops hd _ _ _

/-- The encoder, the same in both programs. -/
theorem enc_agree (z : FVec Ideal S50000x17 .f32) (W : FVec Ideal S17x64 .f32) :
    ReferenceIdeal.Net.encOf (ReferenceIdeal.Net.alpha z) (ReferenceIdeal.Net.lead z) (ReferenceIdeal.Net.rest z) W = KernelIdeal.Net.enc z W := rfl

/-- The rectifier, the same in both programs. -/
theorem relu_agree (X : FVec Ideal S50000x64 .f32) : ReferenceIdeal.Net.relu X = KernelIdeal.Net.relu X := rfl
/-- The second projection, the same in both programs. -/
theorem proj2_agree (X : FVec Ideal S50000x64 .f32) (W : FVec Ideal S64x64 .f32) : ReferenceIdeal.Net.proj2 X W = KernelIdeal.Net.proj2 X W := rfl
/-- The third projection, the same in both programs. -/
theorem proj3_agree (X : FVec Ideal S50000x64 .f32) (W : FVec Ideal S64x32 .f32) : ReferenceIdeal.Net.proj3 X W = KernelIdeal.Net.proj3 X W := rfl
/-- The source words, the same in both programs. -/
theorem src_agree (ei : IVec S2x800000 32) : ReferenceIdeal.Net.srcOf ei = KernelIdeal.Net.srcOf ei := rfl
/-- The destination words, the same in both programs. -/
theorem dst_agree (ei : IVec S2x800000 32) : ReferenceIdeal.Net.dstOf ei = KernelIdeal.Net.dstOf ei := rfl

/-- The network, the same in both programs. -/
theorem net_agree (z : FVec Ideal S50000x17 .f32) (ei : IVec S2x800000 32) (hd : ∀ e : Fin 800000, 0 ≤ (KernelIdeal.Net.dstOf ei (ix1 e)).toInt)
    (W1 : FVec Ideal S17x64 .f32) (b1 : FVec Ideal S64 .f32) (W2 : FVec Ideal S64x64 .f32) (b2 : FVec Ideal S64 .f32) (W3 : FVec Ideal S64x32 .f32) (b3 : FVec Ideal S32 .f32) :
    ReferenceIdeal.Net.net z ei W1 b1 W2 b2 W3 b3 = KernelIdeal.Net.net z ei W1 b1 W2 b2 W3 b3 := by
  unfold ReferenceIdeal.Net.net ReferenceIdeal.Net.netOf ReferenceIdeal.Net.weights KernelIdeal.Net.net
  rw [src_agree, dst_agree, enc_agree, layer64_agree hd, relu_agree, proj2_agree, layer64_agree hd, relu_agree, proj3_agree, layer32_agree hd]

end Cert.EdgeScore

end
-- ==== Proof.Score.lean ====
/- The kernel's score of one edge, as a function of the two endpoints' feature rows and of the packed head weights. -/
module

public import Idealize.ShloMosaic.PureOps.Ideal

@[expose] public section

noncomputable section

namespace Cert.EdgeScore

open Idealize.ShloMosaic

/-- The leaky rectifier of slope `0.2` (as a 32-bit float). -/
def hinge (x : EReal) : EReal := if 0 ≤ x then x else Ideal.ofBits .f32 0x3E4CCCCD#32 * x

/-- The smallest value the inverse hyperbolic cosine is taken of: the next 32-bit float above one. -/
def floor1 : EReal := Ideal.ofBits .f32 0x3F800001#32

/-- The inverse hyperbolic cosine as the kernel writes it. -/
def logForm (x : EReal) : EReal := Ideal.log (x + Ideal.sqrt (x * x - 1))

/-- A vector's lift to the hyperboloid: the first coordinate its other sixteen determine. -/
def lift (v : Fin 16 → EReal) : EReal := Ideal.sqrt (1 + ∑ k, v k * v k)

/-- Minus the kernel's distance of two points given by their last sixteen coordinates. -/
def kdist (u v : Fin 16 → EReal) : EReal :=
  Ideal.ofBits .f32 0xBF800000#32 * logForm (max (Ideal.div (0 - ((0 - lift u) * lift v + ∑ k, u k * v k)) 1) floor1)

/-- Column `l` of the hidden layer, of the two endpoints' rows. -/
def kpre (f g : Fin 48 → EReal) (W : Fin 64 → Fin 128 → EReal) (bc : Fin 128 → EReal) (l : Fin 128) : EReal :=
  ∑ k : Fin 32, f ⟨k.val, by omega⟩ * W ⟨k.val, by omega⟩ l + ∑ k : Fin 32, g ⟨k.val, by omega⟩ * W ⟨32 + k.val, by omega⟩ l + bc l

/-- The kernel's score of an edge whose endpoints have the feature rows `f` and `g`. -/
def kscore (f g : Fin 48 → EReal) (W : Fin 64 → Fin 128 → EReal) (bc w : Fin 128 → EReal) (t0 t1 : EReal) : EReal :=
  Ideal.logistic (Ideal.div
    (kdist (fun k => f ⟨32 + k.val, by omega⟩) (fun k => g ⟨32 + k.val, by omega⟩)
      - (∑ x : Fin 64, hinge (kpre f g W bc ⟨x.val, by omega⟩) * w ⟨x.val, by omega⟩ + t0))
    (∑ x : Fin 64, hinge (kpre f g W bc ⟨64 + x.val, by omega⟩) * w ⟨64 + x.val, by omega⟩ + t1))

end Cert.EdgeScore

end
-- ==== Proof.Block.lean ====
/- What one grid point computes, and the array the grid leaves: element `(i, 0, p)` is the kernel's score of the edge
   `10000 i + p`. -/
module

public import proofs.«01_k».proof.Proof.Gen.KernelIdeal.Value
public import proofs.«01_k».proof.Proof.Score
public import Idealize.ShloMosaic.Lib.Pointwise

@[expose] public section

set_option maxRecDepth 16384

noncomputable section

namespace Cert.EdgeScore

open Cert.KernelIdeal Cert.KernelIdeal.Gen Idealize.ShloMosaic Idealize.ShloMosaic.TcCoe Idealize.SL.Sem

/-! ## One block -/

/-- Minus the distance, at edge `p` of the block. -/
theorem dist_at (x0 x1 : Vec Ideal S10000x48 .f32) (p : Fin 10000) :
    (k0_pay6 x0 x1 (ix1 p) : EReal) = kdist (fun k => x0 (ix2 p ⟨32 + k.val, by omega⟩)) (fun k => x1 (ix2 p ⟨32 + k.val, by omega⟩)) := by
  unfold k0_pay6 k0_pay2 k0_pay3 kdist logForm floor1 lift
  pointwise

/-- The network columns of the first block, at edge `p`. -/
theorem src_at (x0 : Vec Ideal S10000x48 .f32) (p : Fin 10000) (j : Fin 32) : (k0_pay4 x0 (ix2 p j) : EReal) = x0 (ix2 p ⟨j.val, by omega⟩) := by
  unfold k0_pay4 k0_pay2
  pointwise

/-- The network columns of the second block, at edge `p`. -/
theorem dst_at (x1 : Vec Ideal S10000x48 .f32) (p : Fin 10000) (j : Fin 32) : (k0_pay5 x1 (ix2 p j) : EReal) = x1 (ix2 p ⟨j.val, by omega⟩) := by
  unfold k0_pay5 k0_pay3
  pointwise

/-- The upper half of the weights. -/
theorem upper_at (x2 : Vec Ideal S64x128 .f32) (k : Fin 32) (l : Fin 128) : (k0_pay8 x2 (ix2 k l) : EReal) = x2 (ix2 ⟨k.val, by omega⟩ l) := by
  unfold k0_pay8 k0_pay7
  pointwise

/-- All the weights. -/
theorem all_at (x2 : Vec Ideal S64x128 .f32) (k : Fin 64) (l : Fin 128) : (k0_pay7 x2 (ix2 k l) : EReal) = x2 (ix2 k l) := by
  unfold k0_pay7
  pointwise

set_option maxHeartbeats 1000000 in
/-- The block's one stored value, at edge `p`. -/
theorem pay_at (x0 x1 : Vec Ideal S10000x48 .f32) (x2 : Vec Ideal S64x128 .f32) (x3 x4 : Vec Ideal S1x128 .f32) (y0 y1 : Vec Ideal S1x1 .f32) (p : Fin 10000) :
    (k0_pay1 (k0_pay4 x0) (k0_pay5 x1) (k0_pay6 x0 x1) (k0_pay7 x2) (k0_pay8 x2) (constant S10000x128 .f32 0x00000000#32) x3 x4 y0 y1 (ix3 0 0 p) : EReal)
      = kscore (fun j => x0 (ix2 p j)) (fun j => x1 (ix2 p j)) (fun k l => x2 (ix2 k l)) (fun l => x3 (ix2 0 l)) (fun l => x4 (ix2 0 l))
          (y0 (ix2 0 0)) (y1 (ix2 0 0)) := by
  unfold k0_pay1 kscore hinge kpre
  pointwise
  simp only [dist_at, src_at, dst_at, upper_at, all_at]

/-- The zero offset of a load or store through a whole buffer of rank two. -/
theorem off2 : (![0, 0] : Fin 2 → Nat) = fun _ => 0 := funext fun a => by fin_cases a <;> rfl
/-- The zero offset of a store through a whole buffer of rank three. -/
theorem off3 : (![0, 0, 0] : Fin 3 → Nat) = fun _ => 0 := funext fun a => by fin_cases a <;> rfl

/-- What a grid point leaves in the result's staging buffer, at edge `p` of its block. -/
theorem out_at (x0 x1 : Vec Ideal S10000x48 .f32) (x2 : Vec Ideal S64x128 .f32) (x3 x4 x5 : Vec Ideal S1x128 .f32) (p : Fin 10000) :
    (out0_6 x0 x1 x2 x3 x4 x5 (ix3 0 0 p) : EReal)
      = kscore (fun j => x0 (ix2 p j)) (fun j => x1 (ix2 p j)) (fun k l => x2 (ix2 k l)) (fun l => x3 (ix2 0 l)) (fun l => x4 (ix2 0 l))
          (x5 (ix2 0 0)) (x5 (ix2 0 1)) := by
  unfold out0_6
  rw [View.canon_unit_zero off3]
  rw [View.ld_unit_zero off2, View.ld_unit_zero off2, View.ld_unit_zero off2, View.ld_unit_zero off2, View.ld_unit_zero off2]
  refine (pay_at x0 x1 x2 x3 x4 _ _ p).trans ?_
  have e0 : (View.ld x5 r0_3 (ix2 (0 : Fin 1) (0 : Fin 1)) : EReal) = x5 (ix2 0 0) := by
    show x5 _ = x5 _
    exact congrArg x5 (funext fun a => Fin.ext (match a with | ⟨0, _⟩ => rfl | ⟨1, _⟩ => rfl))
  have e1 : (View.ld x5 r0_4 (ix2 (0 : Fin 1) (0 : Fin 1)) : EReal) = x5 (ix2 0 1) := by
    show x5 _ = x5 _
    exact congrArg x5 (funext fun a => Fin.ext (match a with | ⟨0, _⟩ => rfl | ⟨1, _⟩ => rfl))
  rw [e0, e1]

/-- The same at any index of the block. -/
theorem out_at_idx (x0 x1 : Vec Ideal S10000x48 .f32) (x2 : Vec Ideal S64x128 .f32) (x3 x4 x5 : Vec Ideal S1x128 .f32) (j : S1x1x10000.Idx) :
    (out0_6 x0 x1 x2 x3 x4 x5 j : EReal)
      = kscore (fun k => x0 (ix2 ⟨(j 2).val, (j 2).isLt⟩ k)) (fun k => x1 (ix2 ⟨(j 2).val, (j 2).isLt⟩ k)) (fun k l => x2 (ix2 k l))
          (fun l => x3 (ix2 0 l)) (fun l => x4 (ix2 0 l)) (x5 (ix2 0 0)) (x5 (ix2 0 1)) := by
  have hj : j = ix3 0 0 ⟨(j 2).val, (j 2).isLt⟩ := funext fun a => Fin.ext (match a with
    | ⟨0, _⟩ => by have : (j 0).val < 1 := (j 0).isLt; show (j 0).val = 0; omega
    | ⟨1, _⟩ => by have : (j 1).val < 1 := (j 1).isLt; show (j 1).val = 0; omega
    | ⟨2, _⟩ => rfl)
  exact (congrArg (out0_6 x0 x1 x2 x3 x4 x5) hj).trans (out_at x0 x1 x2 x3 x4 x5 _)

/-! ## The blocks of the arrays -/

variable (m : (ℓ : Loc nD τ sig) → Buf (Elt Ideal) ℓ)

/-- Where each window's block stands: the two row windows and the result's move with the grid, the others stay. -/
theorem places : ∀ t : Fin cfg0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = t.val ∧ win0_6.index t 1 = 0 ∧ win0_6.index t 2 = 0) :=
  (by decide +kernel : ∀ t : Fin grid0.N, (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = 0 ∧ win0_4.index t 1 = 0) ∧ (win0_5.index t 0 = 0 ∧ win0_5.index t 1 = 0)
    ∧ (win0_6.index t 0 = t.val ∧ win0_6.index t 1 = 0 ∧ win0_6.index t 2 = 0))

/-- The grid has eighty points. -/
theorem lt80 (t : Fin cfg0.N) : t.val < 80 := lt_of_lt_of_eq t.isLt N_0

/-- The edge at place `p` of block `i`. -/
def edge (i : Fin 80) (p : Fin 10000) : Fin 800000 := ⟨10000 * i.val + p.val, by omega⟩

/-- Row `p` of the first window's block is the array's row of that edge. -/
theorem blk0 (c : Dev nD) (t : Fin cfg0.N) (p : Fin 10000) (j : Fin 48) :
    (iblk m c 0 t : S10000x48.Idx → EReal) (ix2 p j) = (V m c main_v97 : S800000x48.Idx → EReal) (ix2 (edge ⟨t.val, lt80 t⟩ p) j) := by
  obtain ⟨h0, h1⟩ := (places t).1
  unfold iblk
  show (V m c main_v97 : S800000x48.Idx → EReal) _ = _
  refine congrArg (V m c main_v97 : S800000x48.Idx → EReal) (funext fun a => Fin.ext ?_)
  match a with
  | ⟨0, _⟩ =>
    show win0_0.index t 0 * 10000 + 1 * p.val = 10000 * t.val + p.val
    rw [h0]; omega
  | ⟨1, _⟩ =>
    show win0_0.index t 1 * 48 + 1 * j.val = j.val
    rw [h1]; omega

/-- Row `p` of the second window's block is the array's row of that edge. -/
theorem blk1 (c : Dev nD) (t : Fin cfg0.N) (p : Fin 10000) (j : Fin 48) :
    (iblk m c 1 t : S10000x48.Idx → EReal) (ix2 p j) = (V m c main_v104 : S800000x48.Idx → EReal) (ix2 (edge ⟨t.val, lt80 t⟩ p) j) := by
  obtain ⟨h0, h1⟩ := (places t).2.1
  unfold iblk
  show (V m c main_v104 : S800000x48.Idx → EReal) _ = _
  refine congrArg (V m c main_v104 : S800000x48.Idx → EReal) (funext fun a => Fin.ext ?_)
  match a with
  | ⟨0, _⟩ =>
    show win0_1.index t 0 * 10000 + 1 * p.val = 10000 * t.val + p.val
    rw [h0]; omega
  | ⟨1, _⟩ =>
    show win0_1.index t 1 * 48 + 1 * j.val = j.val
    rw [h1]; omega

/-- The third window's block is its array. -/
theorem blk2 (c : Dev nD) (t : Fin cfg0.N) (p : Fin 64) (j : Fin 128) :
    (iblk m c 2 t : S64x128.Idx → EReal) (ix2 p j) = (V m c main_v105 : S64x128.Idx → EReal) (ix2 p j) := by
  obtain ⟨h0, h1⟩ := (places t).2.2.1
  unfold iblk
  show (V m c main_v105 : S64x128.Idx → EReal) _ = _
  refine congrArg (V m c main_v105 : S64x128.Idx → EReal) (funext fun a => Fin.ext ?_)
  match a with
  | ⟨0, _⟩ =>
    show win0_2.index t 0 * 64 + 1 * p.val = p.val
    rw [h0]; omega
  | ⟨1, _⟩ =>
    show win0_2.index t 1 * 128 + 1 * j.val = j.val
    rw [h1]; omega

/-- The fourth window's block is its array. -/
theorem blk3 (c : Dev nD) (t : Fin cfg0.N) (p : Fin 1) (j : Fin 128) :
    (iblk m c 3 t : S1x128.Idx → EReal) (ix2 p j) = (V m c main_v107 : S1x128.Idx → EReal) (ix2 p j) := by
  obtain ⟨h0, h1⟩ := (places t).2.2.2.1
  unfold iblk
  show (V m c main_v107 : S1x128.Idx → EReal) _ = _
  refine congrArg (V m c main_v107 : S1x128.Idx → EReal) (funext fun a => Fin.ext ?_)
  match a with
  | ⟨0, _⟩ =>
    show win0_3.index t 0 * 1 + 1 * p.val = p.val
    rw [h0]; omega
  | ⟨1, _⟩ =>
    show win0_3.index t 1 * 128 + 1 * j.val = j.val
    rw [h1]; omega

/-- The fifth window's block is its array. -/
theorem blk4 (c : Dev nD) (t : Fin cfg0.N) (p : Fin 1) (j : Fin 128) :
    (iblk m c 4 t : S1x128.Idx → EReal) (ix2 p j) = (V m c main_v111 : S1x128.Idx → EReal) (ix2 p j) := by
  obtain ⟨h0, h1⟩ := (places t).2.2.2.2.1
  unfold iblk
  show (V m c main_v111 : S1x128.Idx → EReal) _ = _
  refine congrArg (V m c main_v111 : S1x128.Idx → EReal) (funext fun a => Fin.ext ?_)
  match a with
  | ⟨0, _⟩ =>
    show win0_4.index t 0 * 1 + 1 * p.val = p.val
    rw [h0]; omega
  | ⟨1, _⟩ =>
    show win0_4.index t 1 * 128 + 1 * j.val = j.val
    rw [h1]; omega

/-- The sixth window's block is its array. -/
theorem blk5 (c : Dev nD) (t : Fin cfg0.N) (p : Fin 1) (j : Fin 128) :
    (iblk m c 5 t : S1x128.Idx → EReal) (ix2 p j) = (V m c main_v122 : S1x128.Idx → EReal) (ix2 p j) := by
  obtain ⟨h0, h1⟩ := (places t).2.2.2.2.2.1
  unfold iblk
  show (V m c main_v122 : S1x128.Idx → EReal) _ = _
  refine congrArg (V m c main_v122 : S1x128.Idx → EReal) (funext fun a => Fin.ext ?_)
  match a with
  | ⟨0, _⟩ =>
    show win0_5.index t 0 * 1 + 1 * p.val = p.val
    rw [h0]; omega
  | ⟨1, _⟩ =>
    show win0_5.index t 1 * 128 + 1 * j.val = j.val
    rw [h1]; omega

/-! ## The whole array -/

/-- The kernel's score of edge `e`, of the arrays the grid reads. -/
def scoreAt (c : Dev nD) (e : Fin 800000) : EReal :=
  kscore (fun j => (V m c main_v97 : S800000x48.Idx → EReal) (ix2 e j)) (fun j => (V m c main_v104 : S800000x48.Idx → EReal) (ix2 e j))
    (fun k l => (V m c main_v105 : S64x128.Idx → EReal) (ix2 k l)) (fun l => (V m c main_v107 : S1x128.Idx → EReal) (ix2 0 l))
    (fun l => (V m c main_v111 : S1x128.Idx → EReal) (ix2 0 l)) ((V m c main_v122 : S1x128.Idx → EReal) (ix2 0 0)) ((V m c main_v122 : S1x128.Idx → EReal) (ix2 0 1))

/-- All the edges' scores, in the result's layout. -/
def scores (c : Dev nD) : S80x1x10000.Idx → EReal := fun j => scoreAt m c (edge ⟨(j 0).val, (j 0).isLt⟩ ⟨(j 2).val, (j 2).isLt⟩)

/-- Reading an array through the result's block at point `t`. -/
theorem read_result (t : Fin cfg0.N) (A : S80x1x10000.Idx → EReal) (j : S1x1x10000.Idx) :
    (((cfg0.win 6).blk t).view.read (Elt Ideal) A j : EReal) = A (ix3 ⟨t.val, lt80 t⟩ 0 ⟨(j 2).val, (j 2).isLt⟩) := by
  obtain ⟨h0, h1, h2⟩ := (places t).2.2.2.2.2.2
  have j0 : (j 0).val < 1 := (j 0).isLt
  have j1 : (j 1).val < 1 := (j 1).isLt
  show A _ = A _
  refine congrArg A (funext fun a => Fin.ext ?_)
  match a with
  | ⟨0, _⟩ => show win0_6.index t 0 * 1 + 1 * (j 0).val = t.val; rw [h0]; omega
  | ⟨1, _⟩ => show win0_6.index t 1 * 1 + 1 * (j 1).val = 0; rw [h1]; omega
  | ⟨2, _⟩ => show win0_6.index t 2 * 10000 + 1 * (j 2).val = (j 2).val; rw [h2]; omega

/-- Grid point `t` writes back block `t` of the scores. -/
theorem flushed_scores (c : Dev nD) (t : Fin cfg0.N) :
    (dats m 0 c).flushed 6 t = ((cfg0.win 6).blk t).view.read (Elt Ideal) (scores m c) := by
  rw [Cert.KernelIdeal.Value.flushed6]
  obtain ⟨h0, h1, h2⟩ := (places t).2.2.2.2.2.2
  funext j
  refine (out_at_idx (iblk m c 0 t) (iblk m c 1 t) (iblk m c 2 t) (iblk m c 3 t) (iblk m c 4 t) (iblk m c 5 t) j).trans ?_
  rw [read_result]
  have e : scores m c (ix3 ⟨t.val, lt80 t⟩ 0 ⟨(j 2).val, (j 2).isLt⟩) = scoreAt m c (edge ⟨t.val, lt80 t⟩ ⟨(j 2).val, (j 2).isLt⟩) := rfl
  rw [e]
  unfold scoreAt
  have e0 := fun k => blk0 m c t ⟨(j 2).val, (j 2).isLt⟩ k
  have e1 := fun k => blk1 m c t ⟨(j 2).val, (j 2).isLt⟩ k
  simp only [e0, e1, blk2, blk3, blk4, blk5]

/-- An index of the result is in point `t`'s block when its first coordinate is `t`. -/
theorem mem_block (t : Fin cfg0.N) (i : S80x1x10000.Idx) : i ∈ ((cfg0.win 6).blk t).view.set ↔ (i 0).val = t.val := by
  show i ∈ ((View.whole main_v123).slice (win0_6.rect t)).set ↔ _
  rw [View.set_slice_whole, Rect.mem_set_unit]
  obtain ⟨h0, h1, h2⟩ := (places t).2.2.2.2.2.2
  have i1 : (i 1).val < 1 := (i 1).isLt
  have i2 : (i 2).val < 10000 := (i 2).isLt
  refine ⟨fun h => ?_, fun h a => ?_⟩
  · have h' : win0_6.index t 0 * 1 ≤ (i 0).val ∧ (i 0).val < win0_6.index t 0 * 1 + 1 := h 0
    rw [h0] at h'; omega
  · match a with
    | ⟨0, _⟩ => show win0_6.index t 0 * 1 ≤ (i 0).val ∧ (i 0).val < win0_6.index t 0 * 1 + 1; rw [h0]; omega
    | ⟨1, _⟩ => show win0_6.index t 1 * 1 ≤ (i 1).val ∧ (i 1).val < win0_6.index t 1 * 1 + 1; rw [h1]; omega
    | ⟨2, _⟩ => show win0_6.index t 2 * 10000 ≤ (i 2).val ∧ (i 2).val < win0_6.index t 2 * 10000 + 10000; rw [h2]; omega

/-- Every index of the result is in the block of some point that writes back. -/
theorem covered (i : S80x1x10000.Idx) : ∃ t : Fin cfg0.N, (cfg0.win 6).flush t = true ∧ i ∈ ((cfg0.win 6).blk t).view.set := by
  have hi : (i 0).val < 80 := (i 0).isLt
  exact ⟨⟨(i 0).val, lt_of_lt_of_eq hi N_0.symm⟩, flush0_6 _, (mem_block _ i).2 rfl⟩

/-- The grid leaves the scores in the result array. -/
theorem result (c : Dev nD) : (dats m 0 c).arrAt 6 cfg0.N = scores m c :=
  (dats m 0 c).arrAt_eq_of_cover 6 (scores m c) (fun t _ => flushed_scores m c t) covered

end Cert.EdgeScore

end
-- ==== Proof.Tail.lean ====
/- The row holding the two second biases, read at its first two places. -/
module

public import proofs.«01_k».proof.Proof.KernelRead
public import Idealize.ShloMosaic.Lib.Routing.OpsOne

@[expose] public section

set_option maxRecDepth 16384

noncomputable section

namespace Cert.EdgeScore

open Cert.KernelIdeal Cert.KernelIdeal.Gen Cert.KernelIdeal.Net Idealize.ShloMosaic Idealize.ShloMosaic.TcCoe

/-- The two words of a place, the first. -/
theorem pair_first (a b : IVec S1 32) : concatenate S2 0 [⟨S1, a⟩, ⟨S1, b⟩] concatenates_S1_S1_S2_d0 (ix1 (0 : Fin 2)) = a (ix1 0) := by
  pointwise

/-- The two words of a place, the second. -/
theorem pair_second (a b : IVec S1 32) : concatenate S2 0 [⟨S1, a⟩, ⟨S1, b⟩] concatenates_S1_S1_S2_d0 (ix1 (1 : Fin 2)) = b (ix1 0) := by
  pointwise

/-- A row with one element replaced, read at a column. -/
theorem place_at (x : FVec Ideal S1x128 .f32) (a b : IVec S1 32) (u : FVec Ideal S_ .f32) (c : Fin 128) :
    (place x a b u (ix2 0 c) : EReal) = if (a (ix1 0)).toInt = 0 ∧ (b (ix1 0)).toInt = (c.val : Int) then (u ix0 : EReal) else x (ix2 0 c) := by
  unfold place
  have h := Routing.scatter_cell_signed (R := 1) (C := 128) scatter_S1x128_S2_S__n_01_01_0 rfl rfl rfl x
    (concatenate S2 0 [⟨S1, a⟩, ⟨S1, b⟩] concatenates_S1_S1_S2_d0) u (0 : Fin 1) c
  rw [← ix2_eq_valueIdx, ← ix1_eq_valueIdx, ← ix1_eq_valueIdx, pair_first, pair_second] at h
  exact h

/-- The first place holds the first bias. -/
theorem tail_zero (u v : FVec Ideal S1 .f32) : (tail u v (ix2 0 0) : EReal) = u (ix1 0) := by
  unfold tail
  rw [place_at, word1_at, word1_at, if_neg (by decide), place_at, word1_at, if_pos (by decide), scal_at]

/-- The second place holds the second bias. -/
theorem tail_one (u v : FVec Ideal S1 .f32) : (tail u v (ix2 0 1) : EReal) = v (ix1 0) := by
  unfold tail
  rw [place_at, word1_at, word1_at, if_pos (by decide), scal_at]

end Cert.EdgeScore

end
-- ==== Proof.Reals.lean ====
/- The two spellings of the inverse hyperbolic cosine agree above one, over the extended reals. -/
module

public import proofs.«01_k».proof.Proof.Score
public import Idealize.ShloMosaic.Lib.IdealHost
public import Mathlib.Analysis.SpecialFunctions.Arcosh

@[expose] public section

noncomputable section

namespace Cert.EdgeScore

open Idealize.ShloMosaic

/-- The floor is a real number not below one. -/
theorem floor1_real : ∃ r : ℝ, 1 ≤ r ∧ floor1 = (r : EReal) := by
  refine ⟨8388609 * (2 ^ (-23 : ℤ) : ℝ), by norm_num, ?_⟩
  unfold floor1
  simp [Ideal.ofBits, Ideal.ieee]

/-- Above one the two spellings of the inverse hyperbolic cosine agree. -/
theorem acosh_logForm (r : ℝ) (h : 1 ≤ r) : Ideal.acosh (r : EReal) = logForm r := by
  have h0 : 0 ≤ r * r - 1 := by nlinarith
  have e : (r : EReal) * r - 1 = ((r * r - 1 : ℝ) : EReal) := by push_cast; rfl
  have hp : 0 < r + Real.sqrt (r * r - 1) := add_pos_of_pos_of_nonneg (by linarith) (Real.sqrt_nonneg _)
  unfold logForm
  rw [e, Ideal.sqrt_coe, if_neg (not_lt.2 h0), ← EReal.coe_add, Ideal.log_coe, if_neg (not_le.2 hp), Ideal.acosh_coe, if_neg (not_lt.2 h)]
  unfold Real.arcosh
  rw [sq]

/-- The two spellings agree on a value kept above the floor. -/
theorem acosh_max (y : EReal) : Ideal.acosh (max y floor1) = logForm (max y floor1) := by
  obtain ⟨f, hf, ef⟩ := floor1_real
  rw [ef]
  rcases le_total y f with hy | hy
  · rw [max_eq_right hy]
    exact acosh_logForm f hf
  · rw [max_eq_left hy]
    induction y with
    | bot => exact absurd (le_bot_iff.1 hy) (EReal.coe_ne_bot f)
    | top =>
      unfold logForm
      rw [EReal.top_mul_top, show (⊤ : EReal) - 1 = ⊤ from rfl, Ideal.sqrt_top, EReal.top_add_top, Ideal.log_top, Ideal.acosh_top]
    | coe y => exact acosh_logForm y (hf.trans (EReal.coe_le_coe_iff.1 hy))

end Cert.EdgeScore

end
-- ==== Proof.EdgeForm.lean ====
/- The score of one edge, as a function of the node tables, the head weights and the edge's two nodes: the form both
   programs' results are brought to. -/
module

public import proofs.«01_k».proof.Proof.Block
public import proofs.«01_k».proof.Proof.Tail
public import proofs.«01_k».proof.Proof.Reals

@[expose] public section

set_option maxRecDepth 16384

noncomputable section

namespace Cert.EdgeScore

open Cert.KernelIdeal Cert.KernelIdeal.Gen Cert.KernelIdeal.Net Idealize.ShloMosaic Idealize.ShloMosaic.TcCoe

/-- A head's hidden layer of two network rows, at column `l`. -/
def hiddenAt (f g : Fin 32 → EReal) (W : Fin 64 → Fin 64 → EReal) (b : Fin 64 → EReal) (l : Fin 64) : EReal :=
  ∑ k : Fin 32, f k * W ⟨k.val, by omega⟩ l + ∑ k : Fin 32, g k * W ⟨32 + k.val, by omega⟩ l + b l

/-- A head's output of two network rows. -/
def headAt (f g : Fin 32 → EReal) (W : Fin 64 → Fin 64 → EReal) (b w : Fin 64 → EReal) (c : EReal) : EReal :=
  ∑ l : Fin 64, hinge (hiddenAt f g W b l) * w l + c

/-- The score of an edge from node `s` to node `d`. -/
def edgeScore (v : Fin 50000 → Fin 16 → EReal) (g : Fin 50000 → Fin 32 → EReal)
    (Wr : Fin 64 → Fin 64 → EReal) (br wr : Fin 64 → EReal) (cr : EReal)
    (Wt : Fin 64 → Fin 64 → EReal) (bt wt : Fin 64 → EReal) (ct : EReal) (s d : Fin 50000) : EReal :=
  Ideal.logistic (Ideal.div (kdist (v s) (v d) - headAt (g s) (g d) Wr br wr cr) (headAt (g s) (g d) Wt bt wt ct))

/-- The kernel's score of an edge, from the packed arrays. -/
theorem kscore_at (z : FVec Ideal S50000x17 .f32) (s d : IVec S800000 32) (g : FVec Ideal S50000x32 .f32) (Wr : FVec Ideal S64x64 .f32) (br : FVec Ideal S64 .f32) (wr : FVec Ideal S64x1 .f32)
    (cr : FVec Ideal S1 .f32) (Wt : FVec Ideal S64x64 .f32) (bt : FVec Ideal S64 .f32) (wt : FVec Ideal S64x1 .f32) (ct : FVec Ideal S1 .f32) (e : Fin 800000) :
    kscore (fun j => pick (feat g (rest z)) s (ix2 e j)) (fun j => pick (feat g (rest z)) d (ix2 e j)) (fun k l => wcat Wr Wt (ix2 k l))
        (fun l => asRow (vcat br bt) (ix2 0 l)) (fun l => asRow (vcat (flat wr) (flat wt)) (ix2 0 l)) (tail cr ct (ix2 0 0)) (tail cr ct (ix2 0 1))
      = edgeScore (fun n k => z (ix2 n ⟨1 + k.val, by omega⟩)) (fun n k => g (ix2 n k))
          (fun k l => Wr (ix2 k l)) (fun l => br (ix1 l)) (fun l => wr (ix2 l 0)) (cr (ix1 0))
          (fun k l => Wt (ix2 k l)) (fun l => bt (ix1 l)) (fun l => wt (ix2 l 0)) (ct (ix1 0))
          (node (s (ix1 e))) (node (d (ix1 e))) := by
  unfold kscore kpre edgeScore headAt hiddenAt
  simp only [pick_net, pick_rest, rest_at, wcat_left, wcat_right, bcat_left, bcat_right, flat_at, tail_zero, tail_one]

end Cert.EdgeScore

end
-- ==== Proof.RefScore.lean ====
/- The reference's result read at an edge. -/
module

public import proofs.«01_k».proof.Proof.RefRead
public import proofs.«01_k».proof.Proof.EdgeForm

@[expose] public section

set_option maxRecDepth 16384

noncomputable section

namespace Cert.EdgeScore.Ref

open Cert.ReferenceIdeal Cert.ReferenceIdeal.Gen Cert.ReferenceIdeal.Net Idealize.ShloMosaic Idealize.ShloMosaic.TcCoe

/-- The points the words name. -/
theorem points_at (z : FVec Ideal S50000x17 .f32) (w : IVec S800000 32) (e : Fin 800000) (j : Fin 17) : (points z w (ix2 e j) : EReal) = z (ix2 (node (w (ix1 e))) j) := by
  unfold points
  rw [gather17_at, nodeEdges_at]

/-- The network rows the words name. -/
theorem pick_at (g : FVec Ideal S50000x32 .f32) (w : IVec S800000 32) (e : Fin 800000) (j : Fin 32) : (pick g w (ix2 e j) : EReal) = g (ix2 (node (w (ix1 e))) j) := by
  unfold pick
  rw [gatherNet_at, nodeEdges_at]

/-- Minus the distance at an edge. -/
theorem distOf_at (a b : FVec Ideal S800000x17 .f32) (e : Fin 800000) :
    (distOf a b (ix1 e) : EReal) = Ideal.ofBits .f32 0xBF800000#32 * (1 * Ideal.acosh (max (Ideal.div
      (-(-(a (ix2 e 0) : EReal) * b (ix2 e 0) + ∑ k : Fin 16, (a (ix2 e ⟨1 + k.val, by omega⟩) : EReal) * b (ix2 e ⟨1 + k.val, by omega⟩))) 1) floor1)) := by
  unfold distOf floor1
  pointwise

/-- A head's hidden layer at an edge. -/
theorem hiddenOf_at (a b : FVec Ideal S800000x32 .f32) (W : FVec Ideal S64x64 .f32) (c : FVec Ideal S64 .f32) (e : Fin 800000) (l : Fin 64) :
    (hiddenOf a b W c (ix2 e l) : EReal) = ∑ k : Fin 32, (a (ix2 e k) : EReal) * W (ix2 ⟨k.val, by omega⟩ l) + ∑ k : Fin 32, (b (ix2 e k) : EReal) * W (ix2 ⟨32 + k.val, by omega⟩ l) + c (ix1 l) := by
  unfold hiddenOf
  pointwise

/-- A head's output at an edge. -/
theorem head_at (h : FVec Ideal S800000x64 .f32) (w : FVec Ideal S64x1 .f32) (c : FVec Ideal S1 .f32) (e : Fin 800000) :
    (head h w c (ix1 e) : EReal) = ∑ l : Fin 64, hinge (h (ix2 e l)) * w (ix2 l 0) + c (ix1 0) := by
  unfold head hinge
  pointwise
  rfl

/-- The score at an edge. -/
theorem score_at (x r t : FVec Ideal S800000 .f32) (i : Fin 80) (p : Fin 10000) :
    (score x r t (ix3 i 0 p) : EReal) = Ideal.logistic (Ideal.div (x (ix1 (edge i p)) - r (ix1 (edge i p))) (t (ix1 (edge i p)))) := by
  have h : edge i p = ⟨i.val * 10000 + p.val, by omega⟩ := Fin.ext (by show 10000 * i.val + p.val = i.val * 10000 + p.val; omega)
  rw [h]
  unfold score Ideal.logistic
  pointwise

/-- The reference's result at an edge. -/
theorem result_at (z : FVec Ideal S50000x17 .f32) (ei : IVec S2x800000 32) (g : FVec Ideal S50000x32 .f32) (Wr : FVec Ideal S64x64 .f32) (br : FVec Ideal S64 .f32) (wr : FVec Ideal S64x1 .f32)
    (cr : FVec Ideal S1 .f32) (Wt : FVec Ideal S64x64 .f32) (bt : FVec Ideal S64 .f32) (wt : FVec Ideal S64x1 .f32) (ct : FVec Ideal S1 .f32)
    (hz : ∀ n : Fin 50000, (z (ix2 n 0) : EReal) = lift (fun k => z (ix2 n ⟨1 + k.val, by omega⟩))) (i : Fin 80) (p : Fin 10000) :
    (resultOf z ei g Wr br wr cr Wt bt wt ct (ix3 i 0 p) : EReal)
      = edgeScore (fun n k => z (ix2 n ⟨1 + k.val, by omega⟩)) (fun n k => g (ix2 n k))
          (fun k l => Wr (ix2 k l)) (fun l => br (ix1 l)) (fun l => wr (ix2 l 0)) (cr (ix1 0))
          (fun k l => Wt (ix2 k l)) (fun l => bt (ix1 l)) (fun l => wt (ix2 l 0)) (ct (ix1 0))
          (node (srcOf ei (ix1 (edge i p)))) (node (dstOf ei (ix1 (edge i p)))) := by
  unfold resultOf
  rw [score_at, distOf_at, head_at, head_at, acosh_max]
  simp only [hiddenOf_at, pick_at, points_at, hz]
  unfold edgeScore kdist headAt hiddenAt
  simp only [zero_sub, one_mul]

end Cert.EdgeScore.Ref

end
-- ==== Proof.Agree.lean ====
/- The reference's result is the array of the kernel's scores, when every point lies on the hyperboloid and no edge's
   destination word is negative. -/
module

public import proofs.«01_k».proof.Proof.KernelArrays
public import proofs.«01_k».proof.Proof.NetAgree
public import proofs.«01_k».proof.Proof.RefScore

@[expose] public section

set_option maxRecDepth 16384

noncomputable section

namespace Cert.EdgeScore

open Cert.KernelIdeal Cert.KernelIdeal.Gen Idealize.ShloMosaic Idealize.ShloMosaic.TcCoe

variable (m : (ℓ : Loc nD τ sig) → Buf (Elt Ideal) ℓ) (c : Dev nD)

/-- The table of points the launch holds. -/
abbrev argZ : FVec Ideal S50000x17 .f32 := m ((c.tc : Thread nD τ).loc main_arg0)
/-- The edge list the launch holds. -/
abbrev argE : IVec S2x800000 32 := m ((c.tc : Thread nD τ).loc main_arg1)
/-- The network's output on the launch's arguments. -/
abbrev argG : FVec Ideal S50000x32 .f32 :=
  Net.net (argZ m c) (argE m c) (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
/-- The score of edge `e`, of the launch's arguments. -/
abbrev argScore (e : Fin 800000) : EReal :=
  edgeScore (fun n k => argZ m c (ix2 n ⟨1 + k.val, by omega⟩)) (fun n k => argG m c (ix2 n k))
    (fun k l => (m ((c.tc : Thread nD τ).loc main_arg8) : FVec Ideal S64x64 .f32) (ix2 k l)) (fun l => (m ((c.tc : Thread nD τ).loc main_arg9) : FVec Ideal S64 .f32) (ix1 l))
    (fun l => (m ((c.tc : Thread nD τ).loc main_arg10) : FVec Ideal S64x1 .f32) (ix2 l 0)) ((m ((c.tc : Thread nD τ).loc main_arg11) : FVec Ideal S1 .f32) (ix1 0))
    (fun k l => (m ((c.tc : Thread nD τ).loc main_arg12) : FVec Ideal S64x64 .f32) (ix2 k l)) (fun l => (m ((c.tc : Thread nD τ).loc main_arg13) : FVec Ideal S64 .f32) (ix1 l))
    (fun l => (m ((c.tc : Thread nD τ).loc main_arg14) : FVec Ideal S64x1 .f32) (ix2 l 0)) ((m ((c.tc : Thread nD τ).loc main_arg15) : FVec Ideal S1 .f32) (ix1 0))
    (node (Net.srcOf (argE m c) (ix1 e))) (node (Net.dstOf (argE m c) (ix1 e)))

/-- The kernel's score of an edge, of the launch's arguments. -/
theorem scoreAt_arg (e : Fin 800000) : scoreAt m c e = argScore m c e := by
  unfold scoreAt
  rw [Net.V_main_v97, Net.V_main_v104, Net.V_main_v105, Net.V_main_v107, Net.V_main_v111, Net.V_main_v122]
  exact kscore_at (argZ m c) (Net.srcOf (argE m c)) (Net.dstOf (argE m c)) (argG m c) (m ((c.tc : Thread nD τ).loc main_arg8)) (m ((c.tc : Thread nD τ).loc main_arg9))
    (m ((c.tc : Thread nD τ).loc main_arg10)) (m ((c.tc : Thread nD τ).loc main_arg11)) (m ((c.tc : Thread nD τ).loc main_arg12)) (m ((c.tc : Thread nD τ).loc main_arg13))
    (m ((c.tc : Thread nD τ).loc main_arg14)) (m ((c.tc : Thread nD τ).loc main_arg15)) e

/-- The reference's result is the kernel's scores. -/
theorem result_scores (hz : ∀ n : Fin 50000, (argZ m c (ix2 n 0) : EReal) = lift (fun k => argZ m c (ix2 n ⟨1 + k.val, by omega⟩)))
    (hd : ∀ e : Fin 800000, 0 ≤ (Net.dstOf (argE m c) (ix1 e)).toInt) :
    ReferenceIdeal.Net.resultOf (argZ m c) (argE m c)
        (ReferenceIdeal.Net.net (argZ m c) (argE m c) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)))
        (m ((c.tc : Thread nD τ).loc main_arg8)) (m ((c.tc : Thread nD τ).loc main_arg9)) (m ((c.tc : Thread nD τ).loc main_arg10)) (m ((c.tc : Thread nD τ).loc main_arg11))
        (m ((c.tc : Thread nD τ).loc main_arg12)) (m ((c.tc : Thread nD τ).loc main_arg13)) (m ((c.tc : Thread nD τ).loc main_arg14)) (m ((c.tc : Thread nD τ).loc main_arg15))
      = scores m c := by
  rw [net_agree _ _ hd]
  funext j
  have j1 : (j 1).val < 1 := (j 1).isLt
  have hj : j = ix3 ⟨(j 0).val, (j 0).isLt⟩ 0 ⟨(j 2).val, (j 2).isLt⟩ := funext fun a => Fin.ext (match a with
    | ⟨0, _⟩ => rfl
    | ⟨1, _⟩ => by show (j 1).val = 0; omega
    | ⟨2, _⟩ => rfl)
  refine (congrArg _ hj).trans ((Ref.result_at _ _ _ _ _ _ _ _ _ _ _ hz _ _).trans ?_)
  exact (scoreAt_arg m c (edge ⟨(j 0).val, (j 0).isLt⟩ ⟨(j 2).val, (j 2).isLt⟩)).symm

end Cert.EdgeScore

end
-- ==== Proof.Domain.lean ====
/- What the precondition says of the arguments: every point's first coordinate is the lift of its other sixteen, and
   no edge's destination word is negative. -/
module

public import proofs.«01_k».proof.Defs
public import proofs.«01_k».proof.Proof.Gen.Pre_on_the_hyperboloid
public import proofs.«01_k».proof.Proof.KernelRead
public import proofs.«01_k».proof.Proof.Score

@[expose] public section

set_option maxRecDepth 16384

noncomputable section

namespace Cert.EdgeScore

open Cert.Pre_on_the_hyperboloid Cert.Pre_on_the_hyperboloid.Facts Idealize.ShloMosaic

/-- A signed comparison with zero that is one says its operand is not negative. -/
theorem nonneg_of_cmpi {w : BitVec 32} (h : IntOp.cmpi .sge w 0#32 = 1#1) : 0 ≤ w.toInt := by
  unfold IntOp.cmpi at h
  by_contra hn
  have hs : BitVec.sle 0#32 w = false := by
    rw [BitVec.sle_eq_decide]
    simpa using hn
  simp [hs] at h

section
variable (a0 : FVec Ideal S50000x17 .f32) (a1 : IVec S2x800000 32) (a2 : FVec Ideal S17x64 .f32) (a3 : FVec Ideal S64 .f32) (a4 : FVec Ideal S64x64 .f32) (a5 : FVec Ideal S64 .f32)
  (a6 : FVec Ideal S64x32 .f32) (a7 : FVec Ideal S32 .f32) (a8 : FVec Ideal S64x64 .f32) (a9 : FVec Ideal S64 .f32) (a10 : FVec Ideal S64x1 .f32) (a11 : FVec Ideal S1 .f32)
  (a12 : FVec Ideal S64x64 .f32) (a13 : FVec Ideal S64 .f32) (a14 : FVec Ideal S64x1 .f32) (a15 : FVec Ideal S1 .f32)

/-- Every point lies on the hyperboloid. -/
theorem lifted_of (h : (fn (F := Ideal) a0 a1 a2 a3 a4 a5 a6 a7 a8 a9 a10 a11 a12 a13 a14 a15).1 = fun _ => 1#1) (n : Fin 50000) :
    (a0 (ix2 n 0) : EReal) = lift (fun k => a0 (ix2 n ⟨1 + k.val, by omega⟩)) := by
  have h' := congrFun h (ix1 n)
  unfold fn at h'
  pointwise at h'
  by_contra hn
  unfold lift at hn
  rw [decide_eq_false hn] at h'
  exact absurd h' (by decide)

/-- No edge's destination word is negative. -/
theorem dst_of (h : (fn (F := Ideal) a0 a1 a2 a3 a4 a5 a6 a7 a8 a9 a10 a11 a12 a13 a14 a15).2 = fun _ => 1#1) (e : Fin 800000) :
    0 ≤ (KernelIdeal.Net.dstOf a1 (ix1 e)).toInt := by
  have h' := congrFun h (ix1 e)
  unfold fn at h'
  pointwise at h'
  have hw : KernelIdeal.Net.dstOf a1 (ix1 e) = a1 (ix2 1 e) := by
    unfold KernelIdeal.Net.dstOf
    pointwise
  rw [hw]
  exact nonneg_of_cmpi h'

end

end Cert.EdgeScore

end
-- ==== Proof.RefResult.lean ====
/- The reference's run, with its result as a function of the launch's arguments. -/
module

public import proofs.«01_k».proof.Proof.RefNet

@[expose] public section

set_option maxRecDepth 16384

noncomputable section

namespace Cert.ReferenceIdeal.Net

open Cert.ReferenceIdeal Cert.ReferenceIdeal.Gen Idealize.ShloMosaic Idealize.ShloMosaic.TcCoe Idealize.ShloMosaic.StableHlo Idealize.SL.Sem

variable {F : FTy → Type} [FloatOps F]

/-- The reference ends with its result array at its function of the arguments, and each argument as it was. -/
theorem run_result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v206) = resultOf (m ((c.tc : Thread nD τ).loc main_arg0)) (m ((c.tc : Thread nD τ).loc main_arg1)) (net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
        (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) := by
  refine (θ_run defs _ _).mono (fun _ h c => ⟨(h c).1.trans ?_, (h c).2⟩) (Value.run (F := F) m ρ)
  refine Eq.trans (b := resultOf (launchContents m c (Proc.devRef .tc main_arg0)) (launchContents m c (Proc.devRef .tc main_arg1)) (Value.res_main_v139 (launchContents m c))
        (launchContents m c (Proc.devRef .tc main_arg8)) (launchContents m c (Proc.devRef .tc main_arg9)) (launchContents m c (Proc.devRef .tc main_arg10)) (launchContents m c (Proc.devRef .tc main_arg11)) (launchContents m c (Proc.devRef .tc main_arg12)) (launchContents m c (Proc.devRef .tc main_arg13)) (launchContents m c (Proc.devRef .tc main_arg14)) (launchContents m c (Proc.devRef .tc main_arg15))) rfl ?_
  rw [net_eq]

end Cert.ReferenceIdeal.Net

end
-- ==== Proof.lean ====
/- The claims, assembled: the frames of the three programs, and the equality of the kernel's and the reference's results
   over the extended reals (Agree) where the precondition (Domain) holds. -/
module

public import proofs.«01_k».proof.Defs
public import proofs.«01_k».proof.Proof.Gen.KernelIdeal.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_on_the_hyperboloid
public import Idealize.ShloMosaic.Adequacy
public import Idealize.ShloMosaic.Init
public import Idealize.ShloMosaic.Lib.Quiescent
public import proofs.«01_k».proof.Proof.Agree
public import proofs.«01_k».proof.Proof.Domain
public import proofs.«01_k».proof.Proof.RefResult
public import proofs.«01_k».proof.Proof.Block

@[expose] public section

noncomputable section

namespace Cert.Proof

open Idealize.ShloMosaic Idealize.ShloMosaic.TcCoe Idealize.SL.Sem

/-- The reference ends with its arguments unchanged and every counter at zero. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The same under the precondition. -/
theorem frame_reference_pre : Cert.quiescent_ReferenceIdeal_pre_on_the_hyperboloid := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- Over the extended reals both programs end with the kernel's scores. -/
theorem algebraic : Cert.algebraic_KernelIdeal_ReferenceIdeal_pre_on_the_hyperboloid := by
  intro m ρ m' ρ' hpre hagree
  refine ⟨fun c => Cert.EdgeScore.scores m c, ?_, ?_⟩
  · exact (θ_run Cert.KernelIdeal.defs _ _).mono (fun _ h c => ⟨(h c).1.trans (Cert.EdgeScore.result m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Net.run_result (F := Ideal) m' ρ')
    obtain ⟨e0, e1, e2, e3, e4, e5, e6, e7, e8, e9, e10, e11, e12, e13, e14, e15⟩ := hagree c
    rw [e0, e1, e2, e3, e4, e5, e6, e7, e8, e9, e10, e11, e12, e13, e14, e15]
    exact Cert.EdgeScore.result_scores m c
      (Cert.EdgeScore.lifted_of _ _ _ _ _ _ _ _ _ _ _ _ _ _ _ _ (hpre c).1)
      (Cert.EdgeScore.dst_of _ _ _ _ _ _ _ _ _ _ _ _ _ _ _ _ (hpre c).2)

theorem claim : Cert.Claim :=
  ⟨Cert.Kernel.Gen.facts, Cert.KernelIdeal.Gen.facts, Cert.ReferenceIdeal.Gen.facts, Cert.Pre_on_the_hyperboloid.Gen.facts,
    fun m ρ _ => Cert.Kernel.Gen.frame m ρ, fun m ρ _ => Cert.KernelIdeal.Gen.frame m ρ, fun m ρ _ => Cert.KernelIdeal.Gen.frame m ρ,
    frame_reference, frame_reference_pre, trivial, algebraic⟩

end Cert.Proof

end
